-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S16x20000x4 : Shape := ⟨3, ![16, 20000, 4]⟩
abbrev S16x20000x20 : Shape := ⟨3, ![16, 20000, 20]⟩
abbrev S16x20000 : Shape := ⟨2, ![16, 20000]⟩
abbrev S16x20000x1 : Shape := ⟨3, ![16, 20000, 1]⟩
abbrev S20 : Shape := ⟨1, ![20]⟩
abbrev S_ : Shape := ⟨0, ![]⟩
abbrev S1x1x20 : Shape := ⟨3, ![1, 1, 20]⟩

class Facts : Prop where
  bcast_S16x20000_S16x20000x1_0_1 : S16x20000.BroadcastsInDim S16x20000x1 (![0, 1] : Fin 2 → Fin S16x20000x1.rank)
  bcast_S_S20 : S_.BroadcastsInDim S20 (![] : Fin 0 → Fin S20.rank)
  bcast_S20_S1x1x20_2 : S20.BroadcastsInDim S1x1x20 (![2] : Fin 1 → Fin S1x1x20.rank)
  bcast_S16x20000x1_S16x20000x20_0_1_2 : S16x20000x1.BroadcastsInDim S16x20000x20 (![0, 1, 2] : Fin 3 → Fin S16x20000x20.rank)
  bcast_S1x1x20_S16x20000x20_0_1_2 : S1x1x20.BroadcastsInDim S16x20000x20 (![0, 1, 2] : Fin 3 → Fin S16x20000x20.rank)
  bcast_S_S16x20000x20 : S_.BroadcastsInDim S16x20000x20 (![] : Fin 0 → Fin S16x20000x20.rank)
  bcast_S_S16x20000x1 : S_.BroadcastsInDim S16x20000x1 (![] : Fin 0 → Fin S16x20000x1.rank)

variable [Facts]

def fn {F : FTy → Type} [FloatOps F] (main_arg0 : FVec F S16x20000x4 .f32) (main_arg1 : FVec F S16x20000x4 .f32) (main_arg2 : FVec F S16x20000x20 .f32) (main_arg3 : IVec S16x20000 32) : IVec S16x20000x20 1 :=
  let main_v0 : IVec S16x20000x1 32 := broadcastInDim S16x20000x1 ![0, 1] bcast_S16x20000_S16x20000x1_0_1 main_arg3
  let main_v1 : IVec S20 32 := iotaInDim S20 32 0
  let main_c : IVec S_ 32 := constantI S_ 32 1#32
  let main_v2 : IVec S20 32 := broadcastInDim S20 ![] bcast_S_S20 main_c
  let main_v3 : IVec S20 32 := addi main_v2 main_v1
  let main_v4 : IVec S1x1x20 32 := broadcastInDim S1x1x20 ![2] bcast_S20_S1x1x20_2 main_v3
  let main_v5 : IVec S16x20000x20 32 := broadcastInDim S16x20000x20 ![0, 1, 2] bcast_S16x20000x1_S16x20000x20_0_1_2 main_v0
  let main_v6 : IVec S16x20000x20 32 := broadcastInDim S16x20000x20 ![0, 1, 2] bcast_S1x1x20_S16x20000x20_0_1_2 main_v4
  let main_v7 : IVec S16x20000x20 1 := cmpi .ne main_v5 main_v6
  let main_cst : FVec F S_ .f32 := constant S_ .f32 0x7F800000#32
  let main_v8 : FVec F S16x20000x20 .f32 := broadcastInDim S16x20000x20 ![] bcast_S_S16x20000x20 main_cst
  let main_v9 : IVec S16x20000x20 1 := cmpf .olt main_arg2 main_v8
  let main_v10 : IVec S16x20000x20 1 := ori main_v7 main_v9
  let main_c_0 : IVec S_ 32 := constantI S_ 32 0#32
  let main_v11 : IVec S16x20000x1 32 := broadcastInDim S16x20000x1 ![] bcast_S_S16x20000x1 main_c_0
  let main_v12 : IVec S16x20000x1 1 := cmpi .sge main_v0 main_v11
  let main_v13 : IVec S16x20000x20 1 := broadcastInDim S16x20000x20 ![0, 1, 2] bcast_S16x20000x1_S16x20000x20_0_1_2 main_v12
  let main_v14 : IVec S16x20000x20 1 := andi main_v10 main_v13
  let main_c_1 : IVec S_ 32 := constantI S_ 32 20#32
  let main_v15 : IVec S16x20000x1 32 := broadcastInDim S16x20000x1 ![] bcast_S_S16x20000x1 main_c_1
  let main_v16 : IVec S16x20000x1 1 := cmpi .sle main_v0 main_v15
  let main_v17 : IVec S16x20000x20 1 := broadcastInDim S16x20000x20 ![0, 1, 2] bcast_S16x20000x1_S16x20000x20_0_1_2 main_v16
  let main_v18 : IVec S16x20000x20 1 := andi main_v14 main_v17
  main_v18
-- ==== Kernel.lean ====
abbrev S16x20000x4 : Shape := ⟨3, ![16, 20000, 4]⟩
abbrev S16x20000x20 : Shape := ⟨3, ![16, 20000, 20]⟩
abbrev S16x20000 : Shape := ⟨2, ![16, 20000]⟩
abbrev S20x16x20000 : Shape := ⟨3, ![20, 16, 20000]⟩
abbrev S16x4x20000 : Shape := ⟨3, ![16, 4, 20000]⟩
abbrev S320000 : Shape := ⟨1, ![320000]⟩
abbrev S32x1x16 : Shape := ⟨3, ![32, 1, 16]⟩
abbrev S10000 : Shape := ⟨1, ![10000]⟩
abbrev S1x16 : Shape := ⟨2, ![1, 16]⟩
abbrev S_ : Shape := ⟨0, ![]⟩
abbrev S16 : Shape := ⟨1, ![16]⟩
abbrev S1x1x16 : Shape := ⟨3, ![1, 1, 16]⟩
abbrev S1x1 : Shape := ⟨2, ![1, 1]⟩
abbrev S5x16x20000 : Shape := ⟨3, ![5, 16, 20000]⟩
abbrev S8x4x20000 : Shape := ⟨3, ![8, 4, 20000]⟩
abbrev S16x640 : Shape := ⟨2, ![16, 640]⟩
abbrev S1x16x640 : Shape := ⟨3, ![1, 16, 640]⟩
abbrev S1 : Shape := ⟨1, ![1]⟩
abbrev S1x1x1 : Shape := ⟨3, ![1, 1, 1]⟩
abbrev S16x160 : Shape := ⟨2, ![16, 160]⟩
abbrev S1x16x160 : Shape := ⟨3, ![1, 16, 160]⟩
abbrev S8x20000 : Shape := ⟨2, ![8, 20000]⟩
abbrev S8x1x20000 : Shape := ⟨3, ![8, 1, 20000]⟩
abbrev S1x8x4x20000 : Shape := ⟨4, ![1, 8, 4, 20000]⟩
abbrev S1x1x1x1 : Shape := ⟨4, ![1, 1, 1, 1]⟩
abbrev S1x32x1x16 : Shape := ⟨4, ![1, 32, 1, 16]⟩

abbrev nBuf : Table → Nat
  | .hbm => 14
  | .local .tc .vmem => 9
  | .local .tc .smem => 4
  | .local .scVector .vmem => 2
  | _ => 0

abbrev bufTy : (tb : Table) → Fin (nBuf tb) → BufTy
  | .hbm, ⟨0, _⟩ => ⟨S16x20000x4, .f32⟩
  | .hbm, ⟨1, _⟩ => ⟨S16x20000x4, .f32⟩
  | .hbm, ⟨2, _⟩ => ⟨S16x20000x20, .f32⟩
  | .hbm, ⟨3, _⟩ => ⟨S16x20000, .i32⟩
  | .hbm, ⟨4, _⟩ => ⟨S20x16x20000, .f32⟩
  | .hbm, ⟨5, _⟩ => ⟨S16x4x20000, .f32⟩
  | .hbm, ⟨6, _⟩ => ⟨S16x4x20000, .f32⟩
  | .hbm, ⟨7, _⟩ => ⟨S320000, .i32⟩
  | .hbm, ⟨8, _⟩ => ⟨S32x1x16, .f32⟩
  | .hbm, ⟨9, _⟩ => ⟨S1x1, .f32⟩
  | .hbm, ⟨10, _⟩ => ⟨S1x1, .f32⟩
  | .hbm, ⟨11, _⟩ => ⟨S1x1, .f32⟩
  | .hbm, ⟨12, _⟩ => ⟨S1x1, .f32⟩
  | .hbm, ⟨13, _⟩ => ⟨S_, .f32⟩
  | .local .tc .vmem, ⟨0, _⟩ => ⟨S5x16x20000, .f32⟩
  | .local .tc .vmem, ⟨1, _⟩ => ⟨S5x16x20000, .f32⟩
  | .local .tc .vmem, ⟨2, _⟩ => ⟨S16x20000, .i32⟩
  | .local .tc .vmem, ⟨3, _⟩ => ⟨S8x4x20000, .f32⟩
  | .local .tc .vmem, ⟨4, _⟩ => ⟨S8x4x20000, .f32⟩
  | .local .tc .vmem, ⟨5, _⟩ => ⟨S8x4x20000, .f32⟩
  | .local .tc .vmem, ⟨6, _⟩ => ⟨S8x4x20000, .f32⟩
  | .local .tc .vmem, ⟨7, _⟩ => ⟨S32x1x16, .f32⟩
  | .local .tc .vmem, ⟨8, _⟩ => ⟨S16x20000, .f32⟩
  | .local .tc .smem, ⟨0, _⟩ => ⟨S1x1, .f32⟩
  | .local .tc .smem, ⟨1, _⟩ => ⟨S1x1, .f32⟩
  | .local .tc .smem, ⟨2, _⟩ => ⟨S1x1, .f32⟩
  | .local .tc .smem, ⟨3, _⟩ => ⟨S1x1, .f32⟩
  | .local .scVector .vmem, ⟨0, _⟩ => ⟨S10000, .i32⟩
  | .local .scVector .vmem, ⟨1, _⟩ => ⟨S1x16, .f32⟩
  | _, _ => ⟨S16x20000x4, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | .smem, ⟨1, _⟩ => true
  | .smem, ⟨2, _⟩ => true
  | .smem, ⟨3, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 14 → Bool
  | ⟨0, _⟩ => false
  | ⟨1, _⟩ => false
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTables nBuf rfl bufTy 4 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev main_v5_2 : Ref sig .tc := ⟨.hbm, 11, rfl⟩
abbrev main_v5_3 : Ref sig .tc := ⟨.hbm, 12, rfl⟩
abbrev main_v6 : Ref sig .tc := ⟨.hbm, 13, rfl⟩
abbrev main_v3_scv : Ref sig .scVector := ⟨.hbm, 7, rfl⟩
abbrev main_v4_scv : Ref sig .scVector := ⟨.hbm, 8, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg2_0 : Ref sig .tc := ⟨.vmem, 3, rfl⟩
abbrev cc1_stg2_1 : Ref sig .tc := ⟨.vmem, 4, rfl⟩
abbrev cc1_stg3_0 : Ref sig .tc := ⟨.vmem, 5, rfl⟩
abbrev cc1_stg3_1 : Ref sig .tc := ⟨.vmem, 6, rfl⟩
abbrev cc1_stg4_0 : Ref sig .tc := ⟨.vmem, 7, rfl⟩
abbrev cc1_scratch0 : Ref sig .tc := ⟨.vmem, 8, rfl⟩
abbrev cc1_stg5_0 : Ref sig .tc := ⟨.smem, 0, rfl⟩
abbrev cc1_stg6_0 : Ref sig .tc := ⟨.smem, 1, rfl⟩
abbrev cc1_stg7_0 : Ref sig .tc := ⟨.smem, 2, rfl⟩
abbrev cc1_stg8_0 : Ref sig .tc := ⟨.smem, 3, rfl⟩
abbrev cc0_scratch0 : Ref sig .scVector := ⟨.vmem, 0, rfl⟩
abbrev cc0_scratch1 : Ref sig .scVector := ⟨.vmem, 1, rfl⟩
abbrev cc1_sem0_0 : DmaSem sig := 2
abbrev cc1_sem0_1 : DmaSem sig := 3
abbrev cc1_sem1_0 : DmaSem sig := 4
abbrev cc1_sem2_0 : DmaSem sig := 5
abbrev cc1_sem2_1 : DmaSem sig := 6
abbrev cc1_sem3_0 : DmaSem sig := 7
abbrev cc1_sem3_1 : DmaSem sig := 8
abbrev cc1_sem4_0 : DmaSem sig := 9
abbrev cc1_sem5_0 : DmaSem sig := 10
abbrev cc1_sem6_0 : DmaSem sig := 11
abbrev cc1_sem7_0 : DmaSem sig := 12
abbrev cc1_sem8_0 : DmaSem sig := 13
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10000_i32 : BitVec 32 := 10000#32
  let v2 : BitVec 32 := Scalar.muli v1 c10000_i32
  ![v2.toNat]
@[reducible] def k0_t1_loop : Scf.Loop 32 :=
  let c0_i32 : BitVec 32 := 0#32
  let c125_i32 : BitVec 32 := 125#32
  let v4 : BitVec 32 := Scalar.addi c0_i32 c125_i32
  let c1_i32 : BitVec 32 := 1#32
  ⟨c0_i32, v4, c1_i32⟩
def k0_off2 (k0_t1 : Fin k0_t1_loop.trips) (c0_i32_2 : BitVec 32) : Fin 1 → Nat :=
  let c0_i32 : BitVec 32 := 0#32
  let c1_i32 : BitVec 32 := 1#32
  let arg6 : BitVec 32 := Scf.iv c0_i32 c1_i32 k0_t1
  let c5_i32 : BitVec 32 := 5#32
  let v8 : BitVec 32 := Scalar.muli arg6 c5_i32
  let v9 : BitVec 32 := Scalar.addi v8 c0_i32_2
  let c16_i32 : BitVec 32 := 16#32
  let v10 : BitVec 32 := Scalar.muli v9 c16_i32
  let v11 : Index := Scalar.indexCast v10
  ![v11.toNat]
def k0_off3 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_2_r1 : BitVec 32 := 0#32
  let c0_i32_3_r1 : BitVec 32 := 0#32
  ![v1.toNat, 0, 0]
abbrev grid1 : Pipeline.Grid := ⟨1, ![4], ![false]⟩

@[reducible] def k1_t1_loop : Scf.Loop 32 :=
  let c0_i32_1 : BitVec 32 := 0#32
  let c31_i32 : BitVec 32 := 31#32
  let v4 : BitVec 32 := Scalar.addi c0_i32_1 c31_i32
  let c1_i32 : BitVec 32 := 1#32
  ⟨c0_i32_1, v4, c1_i32⟩
def k1_off1 (k1_t1 : Fin k1_t1_loop.trips) : Fin 2 → Nat :=
  let c0_83 : Index := 0#32
  let c0_i32_1 : BitVec 32 := 0#32
  let c1_i32 : BitVec 32 := 1#32
  let arg11 : BitVec 32 := Scf.iv c0_i32_1 c1_i32 k1_t1
  let c640_i32 : BitVec 32 := 640#32
  let v204 : BitVec 32 := Scalar.muli arg11 c640_i32
  let v205 : Index := Scalar.indexCast v204
  ![0, v205.toNat]
def k1_off2 (k1_t1 : Fin k1_t1_loop.trips) : Fin 3 → Nat :=
  let c0_85 : Index := 0#32
  let c0_86 : Index := 0#32
  let c0_i32_1 : BitVec 32 := 0#32
  let c1_i32 : BitVec 32 := 1#32
  let arg11 : BitVec 32 := Scf.iv c0_i32_1 c1_i32 k1_t1
  let c640_i32 : BitVec 32 := 640#32
  let v204 : BitVec 32 := Scalar.muli arg11 c640_i32
  let v209 : Index := Scalar.indexCast v204
  ![0, 0, v209.toNat]
def k1_off3 (k1_t1 : Fin k1_t1_loop.trips) : Fin 3 → Nat :=
  let c1_98 : Index := 1#32
  let c0_99 : Index := 0#32
  let c0_i32_1 : BitVec 32 := 0#32
  let c1_i32 : BitVec 32 := 1#32
  let arg11 : BitVec 32 := Scf.iv c0_i32_1 c1_i32 k1_t1
  let c640_i32 : BitVec 32 := 640#32
  let v204 : BitVec 32 := Scalar.muli arg11 c640_i32
  let v242 : Index := Scalar.indexCast v204
  ![1, 0, v242.toNat]
def k1_off4 (k1_t1 : Fin k1_t1_loop.trips) : Fin 3 → Nat :=
  let c2_111 : Index := 2#32
  let c0_112 : Index := 0#32
  let c0_i32_1 : BitVec 32 := 0#32
  let c1_i32 : BitVec 32 := 1#32
  let arg11 : BitVec 32 := Scf.iv c0_i32_1 c1_i32 k1_t1
  let c640_i32 : BitVec 32 := 640#32
  let v204 : BitVec 32 := Scalar.muli arg11 c640_i32
  let v275 : Index := Scalar.indexCast v204
  ![2, 0, v275.toNat]
def k1_off5 (k1_t1 : Fin k1_t1_loop.trips) : Fin 3 → Nat :=
  let c3_124 : Index := 3#32
  let c0_125 : Index := 0#32
  let c0_i32_1 : BitVec 32 := 0#32
  let c1_i32 : BitVec 32 := 1#32
  let arg11 : BitVec 32 := Scf.iv c0_i32_1 c1_i32 k1_t1
  let c640_i32 : BitVec 32 := 640#32
  let v204 : BitVec 32 := Scalar.muli arg11 c640_i32
  let v308 : Index := Scalar.indexCast v204
  ![3, 0, v308.toNat]
def k1_off6 (k1_t1 : Fin k1_t1_loop.trips) : Fin 3 → Nat :=
  let c4_137 : Index := 4#32
  let c0_138 : Index := 0#32
  let c0_i32_1 : BitVec 32 := 0#32
  let c1_i32 : BitVec 32 := 1#32
  let arg11 : BitVec 32 := Scf.iv c0_i32_1 c1_i32 k1_t1
  let c640_i32 : BitVec 32 := 640#32
  let v204 : BitVec 32 := Scalar.muli arg11 c640_i32
  let v341 : Index := Scalar.indexCast v204
  ![4, 0, v341.toNat]
def k1_cond2 (i : grid1.Coords) : BitVec 1 :=
  let arg0 : BitVec 32 := BitVec.ofNat 32 (i 0).val
  let c2_i32_79 : BitVec 32 := 2#32
  let v198 : BitVec 1 := Scalar.cmpi .slt arg0 c2_i32_79
  let v199 : BitVec 32 := Scalar.extui v198
  let c0_i32_80 : BitVec 32 := 0#32
  let v200 : BitVec 1 := Scalar.cmpi .ne v199 c0_i32_80
  v200

def k1_mult1 (i : grid1.Coords) : BitVec 32 :=
  let arg0 : BitVec 32 := BitVec.ofNat 32 (i 0).val
  let c8_i32 : BitVec 32 := 8#32
  let v204 : BitVec 32 := Scalar.muli arg0 c8_i32
  v204
def k1_off7 (i : grid1.Coords) : Fin 2 → Nat :=
  let arg0 : BitVec 32 := BitVec.ofNat 32 (i 0).val
  let c8_i32 : BitVec 32 := 8#32
  let v204 : BitVec 32 := Scalar.muli arg0 c8_i32
  let v205 : BitVec 32 := v204
  let v206 : Index := Scalar.indexCast v205
  let c0_83 : Index := 0#32
  ![v206.toNat, 0]
def k1_cond3 (i : grid1.Coords) : BitVec 1 :=
  let arg0 : BitVec 32 := BitVec.ofNat 32 (i 0).val
  let c3_i32_81 : BitVec 32 := 3#32
  let v201 : BitVec 1 := Scalar.cmpi .eq arg0 c3_i32_81
  let v202 : BitVec 32 := Scalar.extui v201
  let c0_i32_82 : BitVec 32 := 0#32
  let v203 : BitVec 1 := Scalar.cmpi .ne v202 c0_i32_82
  v203

@[reducible] def k1_t2_loop : Scf.Loop 32 :=
  let c0_i32_84 : BitVec 32 := 0#32
  let c31_i32_85 : BitVec 32 := 31#32
  let v205 : BitVec 32 := Scalar.addi c0_i32_84 c31_i32_85
  let c1_i32_86 : BitVec 32 := 1#32
  ⟨c0_i32_84, v205, c1_i32_86⟩
def k1_off8 (k1_t2 : Fin k1_t2_loop.trips) : Fin 2 → Nat :=
  let c0_121 : Index := 0#32
  let c0_i32_84 : BitVec 32 := 0#32
  let c1_i32_86 : BitVec 32 := 1#32
  let arg11 : BitVec 32 := Scf.iv c0_i32_84 c1_i32_86 k1_t2
  let c640_i32 : BitVec 32 := 640#32
  let v272 : BitVec 32 := Scalar.muli arg11 c640_i32
  let v273 : Index := Scalar.indexCast v272
  ![0, v273.toNat]
def k1_cond1 (i : grid1.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 3 → Nat :=
  let arg0 : BitVec 32 := BitVec.ofNat 32 (i 0).val
  let c1_i32 : BitVec 32 := 1#32
  let v0 : BitVec 32 := Scalar.minsi arg0 c1_i32
  let c0_i32 : BitVec 32 := 0#32
  let c0_i32_0 : BitVec 32 := 0#32
  let c0_i32_1 : BitVec 32 := 0#32
  ![v0.toNat, c0_i32.toNat, c0_i32_0.toNat]

def cc1_transform_3 (i : grid1.Coords) : Fin 3 → Nat :=
  let arg0 : BitVec 32 := BitVec.ofNat 32 (i 0).val
  let c1_i32 : BitVec 32 := 1#32
  let v0 : BitVec 32 := Scalar.minsi arg0 c1_i32
  let c0_i32 : BitVec 32 := 0#32
  let c0_i32_0 : BitVec 32 := 0#32
  let c0_i32_1 : BitVec 32 := 0#32
  ![v0.toNat, c0_i32.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S5x16x20000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S16x20000 .i32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S8x4x20000 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S8x4x20000 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S32x1x16 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .smem S1x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .smem S1x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .smem S1x1 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .smem S1x1 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16x20000x4 : Shape := ⟨3, ![16, 20000, 4]⟩
abbrev S16x20000x20 : Shape := ⟨3, ![16, 20000, 20]⟩
abbrev S16x20000 : Shape := ⟨2, ![16, 20000]⟩
abbrev S_ : Shape := ⟨0, ![]⟩
abbrev S16x20000x1 : Shape := ⟨3, ![16, 20000, 1]⟩
abbrev S1x1x21 : Shape := ⟨3, ![1, 1, 21]⟩
abbrev S16x20000x21 : Shape := ⟨3, ![16, 20000, 21]⟩

abbrev nBuf : Space → Nat
  | .hbm => 95
  | .vmem => 0
  | .smem => 0
  | _ => 0

abbrev bufTy : (tb : Table) → Fin (tcTables nBuf tb) → BufTy
  | .hbm, ⟨0, _⟩ => ⟨S16x20000x4, .f32⟩
  | .hbm, ⟨1, _⟩ => ⟨S16x20000x4, .f32⟩
  | .hbm, ⟨2, _⟩ => ⟨S16x20000x20, .f32⟩
  | .hbm, ⟨3, _⟩ => ⟨S16x20000, .i32⟩
  | .hbm, ⟨4, _⟩ => ⟨S_, .i32⟩
  | .hbm, ⟨5, _⟩ => ⟨S16x20000, .i32⟩
  | .hbm, ⟨6, _⟩ => ⟨S16x20000, .i1⟩
  | .hbm, ⟨7, _⟩ => ⟨S16x20000, .f32⟩
  | .hbm, ⟨8, _⟩ => ⟨S_, .f32⟩
  | .hbm, ⟨9, _⟩ => ⟨S_, .f32⟩
  | .hbm, ⟨10, _⟩ => ⟨S16x20000x4, .f32⟩
  | .hbm, ⟨11, _⟩ => ⟨S16x20000x4, .f32⟩
  | .hbm, ⟨12, _⟩ => ⟨S_, .f32⟩
  | .hbm, ⟨13, _⟩ => ⟨S16x20000x4, .f32⟩
  | .hbm, ⟨14, _⟩ => ⟨S16x20000x4, .i1⟩
  | .hbm, ⟨15, _⟩ => ⟨S_, .f32⟩
  | .hbm, ⟨16, _⟩ => ⟨S16x20000x4, .f32⟩
  | .hbm, ⟨17, _⟩ => ⟨S16x20000x4, .f32⟩
  | .hbm, ⟨18, _⟩ => ⟨S16x20000x4, .f32⟩
  | .hbm, ⟨19, _⟩ => ⟨S_, .f32⟩
  | .hbm, ⟨20, _⟩ => ⟨S16x20000x4, .f32⟩
  | .hbm, ⟨21, _⟩ => ⟨S16x20000x4, .f32⟩
  | .hbm, ⟨22, _⟩ => ⟨S16x20000x4, .f32⟩
  | .hbm, ⟨23, _⟩ => ⟨S16x20000x1, .i1⟩
  | .hbm, ⟨24, _⟩ => ⟨S16x20000x1, .f32⟩
  | .hbm, ⟨25, _⟩ => ⟨S16x20000x4, .f32⟩
  | .hbm, ⟨26, _⟩ => ⟨S16x20000x4, .f32⟩
  | .hbm, ⟨27, _⟩ => ⟨S_, .f32⟩
  | .hbm, ⟨28, _⟩ => ⟨S_, .f32⟩
  | .hbm, ⟨29, _⟩ => ⟨S_, .i32⟩
  | .hbm, ⟨30, _⟩ => ⟨S16x20000, .i32⟩
  | .hbm, ⟨31, _⟩ => ⟨S16x20000, .i1⟩
  | .hbm, ⟨32, _⟩ => ⟨S16x20000, .f32⟩
  | .hbm, ⟨33, _⟩ => ⟨S16x20000x1, .i32⟩
  | .hbm, ⟨34, _⟩ => ⟨S1x1x21, .i32⟩
  | .hbm, ⟨35, _⟩ => ⟨S16x20000x21, .i32⟩
  | .hbm, ⟨36, _⟩ => ⟨S16x20000x21, .i32⟩
  | .hbm, ⟨37, _⟩ => ⟨S16x20000x21, .i1⟩
  | .hbm, ⟨38, _⟩ => ⟨S16x20000x21, .f32⟩
  | .hbm, ⟨39, _⟩ => ⟨S16x20000x20, .f32⟩
  | .hbm, ⟨40, _⟩ => ⟨S16x20000x20, .f32⟩
  | .hbm, ⟨41, _⟩ => ⟨S16x20000x20, .f32⟩
  | .hbm, ⟨42, _⟩ => ⟨S_, .f32⟩
  | .hbm, ⟨43, _⟩ => ⟨S16x20000x20, .f32⟩
  | .hbm, ⟨44, _⟩ => ⟨S16x20000x20, .f32⟩
  | .hbm, ⟨45, _⟩ => ⟨S_, .f32⟩
  | .hbm, ⟨46, _⟩ => ⟨S16x20000x20, .f32⟩
  | .hbm, ⟨47, _⟩ => ⟨S16x20000x20, .f32⟩
  | .hbm, ⟨48, _⟩ => ⟨S16x20000x20, .f32⟩
  | .hbm, ⟨49, _⟩ => ⟨S_, .f32⟩
  | .hbm, ⟨50, _⟩ => ⟨S16x20000x20, .f32⟩
  | .hbm, ⟨51, _⟩ => ⟨S16x20000x20, .f32⟩
  | .hbm, ⟨52, _⟩ => ⟨S_, .f32⟩
  | .hbm, ⟨53, _⟩ => ⟨S16x20000x20, .f32⟩
  | .hbm, ⟨54, _⟩ => ⟨S16x20000x20, .f32⟩
  | .hbm, ⟨55, _⟩ => ⟨S16x20000x20, .f32⟩
  | .hbm, ⟨56, _⟩ => ⟨S16x20000x20, .f32⟩
  | .hbm, ⟨57, _⟩ => ⟨S_, .f32⟩
  | .hbm, ⟨58, _⟩ => ⟨S16x20000x20, .f32⟩
  | .hbm, ⟨59, _⟩ => ⟨S16x20000x20, .f32⟩
  | .hbm, ⟨60, _⟩ => ⟨S_, .f32⟩
  | .hbm, ⟨61, _⟩ => ⟨S16x20000x20, .f32⟩
  | .hbm, ⟨62, _⟩ => ⟨S16x20000x20, .f32⟩
  | .hbm, ⟨63, _⟩ => ⟨S_, .f32⟩
  | .hbm, ⟨64, _⟩ => ⟨S16x20000x20, .f32⟩
  | .hbm, ⟨65, _⟩ => ⟨S16x20000x20, .f32⟩
  | .hbm, ⟨66, _⟩ => ⟨S16x20000x20, .f32⟩
  | .hbm, ⟨67, _⟩ => ⟨S_, .f32⟩
  | .hbm, ⟨68, _⟩ => ⟨S16x20000x20, .f32⟩
  | .hbm, ⟨69, _⟩ => ⟨S16x20000x20, .f32⟩
  | .hbm, ⟨70, _⟩ => ⟨S_, .f32⟩
  | .hbm, ⟨71, _⟩ => ⟨S16x20000x20, .f32⟩
  | .hbm, ⟨72, _⟩ => ⟨S16x20000x20, .f32⟩
  | .hbm, ⟨73, _⟩ => ⟨S16x20000x20, .f32⟩
  | .hbm, ⟨74, _⟩ => ⟨S_, .f32⟩
  | .hbm, ⟨75, _⟩ => ⟨S16x20000x20, .f32⟩
  | .hbm, ⟨76, _⟩ => ⟨S16x20000x20, .f32⟩
  | .hbm, ⟨77, _⟩ => ⟨S16x20000x20, .f32⟩
  | .hbm, ⟨78, _⟩ => ⟨S16x20000x20, .f32⟩
  | .hbm, ⟨79, _⟩ => ⟨S16x20000x20, .f32⟩
  | .hbm, ⟨80, _⟩ => ⟨S16x20000x20, .f32⟩
  | .hbm, ⟨81, _⟩ => ⟨S16x20000x20, .f32⟩
  | .hbm, ⟨82, _⟩ => ⟨S16x20000x20, .f32⟩
  | .hbm, ⟨83, _⟩ => ⟨S16x20000x20, .f32⟩
  | .hbm, ⟨84, _⟩ => ⟨S16x20000x20, .f32⟩
  | .hbm, ⟨85, _⟩ => ⟨S16x20000x1, .f32⟩
  | .hbm, ⟨86, _⟩ => ⟨S16x20000x20, .f32⟩
  | .hbm, ⟨87, _⟩ => ⟨S16x20000x20, .f32⟩
  | .hbm, ⟨88, _⟩ => ⟨S_, .f32⟩
  | .hbm, ⟨89, _⟩ => ⟨S_, .f32⟩
  | .hbm, ⟨90, _⟩ => ⟨S_, .f32⟩
  | .hbm, ⟨91, _⟩ => ⟨S_, .i1⟩
  | .hbm, ⟨92, _⟩ => ⟨S_, .f32⟩
  | .hbm, ⟨93, _⟩ => ⟨S_, .f32⟩
  | .hbm, ⟨94, _⟩ => ⟨S_, .f32⟩
  | _, _ => ⟨S16x20000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_c_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_call1_v0 : Ref sig .tc := ⟨.hbm, 33, rfl⟩
abbrev main_call1_v1 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_5 : Ref sig .tc := ⟨.hbm, 42, rfl⟩
abbrev main_v26 : Ref sig .tc := ⟨.hbm, 43, rfl⟩
abbrev main_v27 : Ref sig .tc := ⟨.hbm, 44, rfl⟩
abbrev main_cst_6 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_7 : Ref sig .tc := ⟨.hbm, 49, rfl⟩
abbrev main_v31 : Ref sig .tc := ⟨.hbm, 50, rfl⟩
abbrev main_v32 : Ref sig .tc := ⟨.hbm, 51, rfl⟩
abbrev main_cst_8 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_9 : Ref sig .tc := ⟨.hbm, 57, rfl⟩
abbrev main_v37 : Ref sig .tc := ⟨.hbm, 58, rfl⟩
abbrev main_v38 : Ref sig .tc := ⟨.hbm, 59, rfl⟩
abbrev main_cst_10 : Ref sig .tc := ⟨.hbm, 60, rfl⟩
abbrev main_v39 : Ref sig .tc := ⟨.hbm, 61, rfl⟩
abbrev main_v40 : Ref sig .tc := ⟨.hbm, 62, rfl⟩
abbrev main_cst_11 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_cst_12 : Ref sig .tc := ⟨.hbm, 67, rfl⟩
abbrev main_v44 : Ref sig .tc := ⟨.hbm, 68, rfl⟩
abbrev main_v45 : Ref sig .tc := ⟨.hbm, 69, rfl⟩
abbrev main_cst_13 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_cst_14 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_cst_15 : Ref sig .tc := ⟨.hbm, 88, rfl⟩
abbrev main_v62 : Ref sig .tc := ⟨.hbm, 89, rfl⟩
abbrev main_cst_16 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩

abbrev nD : Nat := 1
abbrev τ : Topo := Topo.v7x

variable {F : FTy → Type} [FloatOps F]
-- ==== Proof.Setup.lean ====
/-
  The set-up of the run: the program as the SparseCore launch theorem reads it, the resource algebra (the launch's
  handshakes, the TensorCore pipeline's staging cells, the local transfers' counters), the arrays as locations, and
  the values the SparseCore call leaves.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Pipeline.Regions
public import Idealize.ShloMosaic.Lib.Pipeline.FrameBody
public import Idealize.ShloMosaic.Lib.Writes
public import Idealize.ShloMosaic.Lib.ValueLayout
public import Idealize.ShloMosaic.Lib.Tactic
public import proofs.«01_k».proof.Proof.Gen.KernelIdeal
public import proofs.«01_k».proof.Proof.Gen.KernelIdeal.Skeleton
public import proofs.«01_k».proof.Proof.Gen.KernelIdeal.Launch

@[expose] public section

noncomputable section

namespace Cert.Proof.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem nSub_zero : (K (F := F)).nSub 0 = 16 := rfl
theorem nCore_zero : (K (F := F)).nCore 0 = 2 := rfl

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide,
    fun _ => rfl⟩

/-! ## The resource algebra -/

/-- The launch's handshakes; the pipeline's staging cells. -/
abbrev UH : Type := URounds (GSem nD τ sig) ℕ
abbrev UP : Type := URounds (GSem nD τ sig) Unit
/-- The handshakes, the staging cells, and the counters the local transfers draw from. -/
abbrev UU : Type := UH × (UP × Counters)

local notation "𝕄" => MT nD τ sig (HIx 1) (Elt F) ℕ UU ℕ

abbrev EH : Emb UH (MT nD τ sig (HIx 1) (Elt F) ℕ UU ℕ) := embL
/-- The staging cells' place in the algebra. -/
def EP : Emb UP (MT nD τ sig (HIx 1) (Elt F) ℕ UU ℕ) :=
  (((Emb.inl : Emb UP (UP × Counters)).trans (Emb.inr : Emb (UP × Counters) UU))).trans
    (uEmb (nD := nD) (sig := sig) (Ix := HIx 1) (Val := Elt F) (Name := ℕ) (U := UU) (Lvl := ℕ)).toEmb

instance EP_landsIn : (EP : Emb UP 𝕄).LandsIn (upEmb : UEmb _ 𝕄) := by unfold EP; infer_instance

/-! ## The arrays -/

/-- The flattened targets, and the partial counts. -/
abbrev tLoc (d : Dev nD) : Loc nD τ sig := (SparseCore.T d).loc main_v3
abbrev cLoc (d : Dev nD) : Loc nD τ sig := (SparseCore.T d).loc main_v4

/-- Chunk `w` of the flattened targets: tile `w`'s 10000. -/
def chunkOf (t : S320000.Idx → Elt F .i32) (w : Fin 32) : S10000.Idx → Elt F .i32 := fun y =>
  t (fun | 0 => ⟨10000 * w.val + (y 0).val, by have := (y 0).isLt; have := w.isLt; show _ < 320000; change (y 0).val < 10000 at *; omega⟩)

variable [FloatOps F]

/-- One trip of the counting loop over a chunk: five groups of sixteen lanes. -/
def scStep (b : S10000.Idx → Elt F .i32) (k : Fin k0_t1_loop.trips) (acc : FVec F S16 .f32) : FVec F S16 .f32 :=
  k0_pay2 (k0_pay3 acc (View.ld b (Rect.unit (s := S10000) (k0_off2 k 0#32) S16.size (k0_off2_inb k 0)))
      (View.ld b (Rect.unit (s := S10000) (k0_off2 k 1#32) S16.size (k0_off2_inb k 1)))
      (View.ld b (Rect.unit (s := S10000) (k0_off2 k 2#32) S16.size (k0_off2_inb k 2))))
    (View.ld b (Rect.unit (s := S10000) (k0_off2 k 3#32) S16.size (k0_off2_inb k 3)))
    (View.ld b (Rect.unit (s := S10000) (k0_off2 k 4#32) S16.size (k0_off2_inb k 4)))

/-- The lanes' counts after `n` trips. -/
def scAcc (b : S10000.Idx → Elt F .i32) : ℕ → FVec F S16 .f32
  | 0 => k0_pay1
  | n + 1 => if h : n < k0_t1_loop.trips then scStep b ⟨n, h⟩ (scAcc b n) else scAcc b n

theorem scAcc_succ (b : S10000.Idx → Elt F .i32) (k : Fin k0_t1_loop.trips) : scAcc b (k.val + 1) = scStep b k (scAcc b k.val) := by
  rw [scAcc, dif_pos k.isLt]

/-- The partial counts the call leaves: row `w` holds the sixteen lanes' counts over chunk `w`. -/
def parts (t : S320000.Idx → Elt F .i32) : S32x1x16.Idx → Elt F .f32 := fun x =>
  scAcc (chunkOf t (x 0)) k0_t1_loop.trips (fun | 0 => x 2)

end Cert.Proof.Run

end
-- ==== Proof.Sc.lean ====
/-
  The SparseCore call: each of the thirty-two tiles fetches its chunk of the flattened targets, counts the positive ones
  lane by lane, and writes the sixteen counts to its row of the partial counts.
-/
module

public import proofs.«01_k».proof.Proof.Setup

@[expose] public section

set_option maxRecDepth 16384

noncomputable section

namespace Cert.Proof.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "tV" => (Memref.whole Cert.KernelIdeal.main_v3_scv : Memref Cert.KernelIdeal.sig Kind.scVector Space.hbm Cert.KernelIdeal.S320000 EltTy.i32)
local notation "cV'" => (Memref.whole Cert.KernelIdeal.main_v4_scv : Memref Cert.KernelIdeal.sig Kind.scVector Space.hbm Cert.KernelIdeal.S32x1x16 EltTy.f32)
local notation "sB" => (Memref.whole Cert.KernelIdeal.cc0_scratch0 : Memref Cert.KernelIdeal.sig Kind.scVector Space.vmem Cert.KernelIdeal.S10000 EltTy.i32)
local notation "sO" => (Memref.whole Cert.KernelIdeal.cc0_scratch1 : Memref Cert.KernelIdeal.sig Kind.scVector Space.vmem Cert.KernelIdeal.S1x16 EltTy.f32)

/-! ## The tiles' shares of the two arrays -/

theorem hdivT : 32 ∣ S320000.size 0 := ⟨10000, rfl⟩
theorem hdivC : 32 ∣ S32x1x16.size 0 := ⟨1, rfl⟩
/-- Chunk `w` of the targets; row `w` of the counts. -/
abbrev chunk (w : Fin 32) : Rect S320000 := Rect.part (s := S320000) (a₀ := 0) hdivT w
abbrev crow (w : Fin 32) : Rect S32x1x16 := Rect.part (s := S32x1x16) (a₀ := 0) hdivC w
abbrev chunkSet (w : Fin 32) : Finset S320000.Idx := ((tV).view.slice (chunk w)).set
abbrev crowSet (w : Fin 32) : Finset S32x1x16.Idx := ((cV').view.slice (crow w)).set

/-- The tile `(core, subcore)`'s number. -/
def wid (c : Fin 2) (i : Fin 16) : Fin 32 := ⟨2 * i.val + c.val, by omega⟩

abbrev tPts (d : Dev nD) (w : Fin 32) (f : Buf (Elt F) (tLoc d)) : sProp 𝕄 := tLoc d ↦[chunkSet w]{fullShare} f
abbrev cPts (d : Dev nD) (w : Fin 32) (f : Buf (Elt F) (cLoc d)) : sProp 𝕄 := cLoc d ↦[crowSet w]{fullShare} f

variable (T : (d : Dev nD) → Buf (Elt F) (tLoc d)) (G : (d : Dev nD) → Buf (Elt F) (cLoc d))

variable [FloatOps F]

/-- What a tile takes: its chunk at the targets' contents, its row at what was there. What it returns: the chunk, and the
    row at the counts. -/
abbrev goPts (d : Dev nD) (w : Fin 32) : sProp 𝕄 := iprop(tPts d w (T d) ∗ cPts d w (G d))
abbrev tdPts (d : Dev nD) (w : Fin 32) : sProp 𝕄 := iprop(tPts d w (T d) ∗ cPts d w (parts (T d)))

abbrev widK (c : Fin ((K (F := F)).nCore 0)) (i : Fin ((K (F := F)).nSub 0)) : Fin 32 := wid (Fin.cast nCore_zero c) (Fin.cast nSub_zero i)

def P : (K (F := F)).Pay (nD := nD) (Val := Elt F) (Name := ℕ) (U := UU) where
  st := fun q d c => match q with | 0 => bigSep Finset.univ fun i : Fin ((K (F := F)).nSub 0) => goPts T G d (widK (F := F) c i)
  dn := fun q d c => match q with | 0 => bigSep Finset.univ fun i : Fin ((K (F := F)).nSub 0) => tdPts T d (widK (F := F) c i)
  go := fun q d c i => match q with | 0 => goPts T G d (widK (F := F) c i)
  td := fun q d c i => match q with | 0 => tdPts T d (widK (F := F) c i)
  x := fun _ _ => iprop(emp)

instance P_storable : (P (F := F) T G).IsStorable where
  st q d c := match q with
    | 0 => (inferInstance : BI.Storable (upEmb : UEmb _ 𝕄) (bigSep Finset.univ fun i : Fin ((K (F := F)).nSub 0) => goPts T G d (widK (F := F) c i)))
  dn q d c := match q with
    | 0 => (inferInstance : BI.Storable (upEmb : UEmb _ 𝕄) (bigSep Finset.univ fun i : Fin ((K (F := F)).nSub 0) => tdPts T d (widK (F := F) c i)))
  go q d c i := match q with | 0 => (inferInstance : BI.Storable (upEmb : UEmb _ 𝕄) (goPts T G d (widK (F := F) c i)))
  td q d c i := match q with | 0 => (inferInstance : BI.Storable (upEmb : UEmb _ 𝕄) (tdPts T d (widK (F := F) c i)))

/-! ## A tile's task -/

section Tile

variable (d : Dev nD) (L : grid0.Coords)

abbrev cV (L : grid0.Coords) : Fin τ.nSC := (L 0).castLE hcore0
abbrev jV (L : grid0.Coords) : Fin τ.nSub := (L 1).castLE hsub0
omit [FloatOps F] in
theorem bound_zero : grid0.bound 0 = 2 := rfl
omit [FloatOps F] in
theorem bound_one : grid0.bound 1 = 16 := rfl
abbrev wL (L : grid0.Coords) : Fin 32 := wid (Fin.cast bound_zero (L 0)) (Fin.cast bound_one (L 1))

/-- The chunk and the row, as the body spells them. -/
abbrev chunkK (L : grid0.Coords) : Rect S320000 := Rect.unit (s := S320000) (k0_off1 L) S10000.size (k0_off1_inb L)
abbrev crowK (L : grid0.Coords) : Rect S32x1x16 := Rect.unit (s := S32x1x16) (k0_off3 L) S1x1x16.size (k0_off3_inb L)
abbrev tChunkK (L : grid0.Coords) : Memref sig .scVector .hbm S10000 .i32 := (tV).slice (chunkK L) (fun _ => rfl)
abbrev cRowK (L : grid0.Coords) : Memref sig .scVector .hbm S1x16 .f32 := ((cV').slice (crowK L) (fun _ => rfl)).squeeze S1x16 squeezes_S1x1x16_S1x16

omit [FloatOps F] in
theorem chunkK_eq : chunkK L = chunk (wL L) := by
  unfold chunkK chunk Rect.part Rect.block
  congr 1 <;> funext a
  · rw [k0_off1_eq]
    match a with
    | 0 =>
      show 20000 * (L 1).val + 10000 * (L 0).val = (2 * (L 1).val + (L 0).val) * 10000
      ring
  · match a with
    | 0 => simp [Shape.partSize]
omit [FloatOps F] in
theorem crowK_eq : crowK L = crow (wL L) := by
  unfold crowK crow Rect.part Rect.block
  congr 1 <;> funext a
  · rw [k0_off3_eq]
    match a with
    | 0 =>
      show 2 * (L 1).val + (L 0).val = (2 * (L 1).val + (L 0).val) * 1
      ring
    | 1 => simp [Shape.partIx, Shape.partSize]
    | 2 => simp [Shape.partIx, Shape.partSize]
  · match a with
    | 0 => simp [Shape.partSize]
    | 1 => simp [Shape.partSize]
    | 2 => simp [Shape.partSize]

omit [FloatOps F] in
theorem set_tChunkK : (tChunkK L).view.set = chunkSet (wL L) := by
  show ((tV).view.slice (chunkK L)).set = ((tV).view.slice (chunk (wL L))).set
  exact chunkK_eq L ▸ rfl
omit [FloatOps F] in
theorem set_cRowK : (cRowK L).view.set = crowSet (wL L) := by
  show (((cV').view.slice (crowK L)).reshape S1x16 squeezes_S1x1x16_S1x16.numel_eq).set = ((cV').view.slice (crow (wL L))).set
  rw [View.set_reshape]
  exact crowK_eq L ▸ rfl

omit [FloatOps F] in
theorem pts_tChunkK (f : Buf (Elt F) (tLoc d)) :
    ((tChunkK L).view.loc (V d (cV L) (jV L)) ↦[(tChunkK L).view.set]{fullShare} f : sProp 𝕄) = tPts d (wL L) f := by
  rw [set_tChunkK]
omit [FloatOps F] in
theorem pts_cRowK (f : Buf (Elt F) (cLoc d)) :
    ((cRowK L).view.loc (V d (cV L) (jV L)) ↦[(cRowK L).view.set]{fullShare} f : sProp 𝕄) = cPts d (wL L) f := by
  rw [set_cRowK]
omit [FloatOps F] in
theorem pts_sB (f : Buf (Elt F) ((V d (cV L) (jV L)).loc cc0_scratch0)) :
    ((sB).view.loc (V d (cV L) (jV L)) ↦{fullShare} f : sProp 𝕄) = (V d (cV L) (jV L)).loc cc0_scratch0 ↦{fullShare} f := rfl
omit [FloatOps F] in
theorem pts_sO (f : Buf (Elt F) ((V d (cV L) (jV L)).loc cc0_scratch1)) :
    ((sO).view.loc (V d (cV L) (jV L)) ↦{fullShare} f : sProp 𝕄) = (V d (cV L) (jV L)).loc cc0_scratch1 ↦{fullShare} f := rfl

/-- The two transfers' semaphores. -/
abbrev inCell (d : Dev nD) (c : Fin τ.nSC) (i : Fin τ.nSub) : GSem nD τ sig := (V d c i, .dma cc0_scoped0.sem)
abbrev outCell (d : Dev nD) (c : Fin τ.nSC) (i : Fin τ.nSub) : GSem nD τ sig := (V d c i, .dma cc0_scoped1.sem)

omit [FloatOps F] in
theorem ownSems0_V :
    (ownSems0 (V d (cV L) (jV L)) : sProp 𝕄)
      = iprop(semVal (inCell d (cV L) (jV L)) 0 ∗ semVal (outCell d (cV L) (jV L)) 0
          ∗ bigSep (((ownCells (V d (cV L) (jV L))).erase (inCell d (cV L) (jV L))).erase (outCell d (cV L) (jV L))) fun g => semVal g 0) := by
  unfold SparseCore.Cfg.ownSems0
  rw [SparseCore.bigSep_erase' ((mem_ownCells (g := inCell d (cV L) (jV L))).mpr ⟨rfl, by
      show (SemLoc.dma cc0_scoped0.sem : SemLoc sig).isScoped .scVector = true; decide⟩),
    SparseCore.bigSep_erase' (Finset.mem_erase.mpr ⟨by simp [inCell, outCell]; decide, (mem_ownCells (g := outCell d (cV L) (jV L))).mpr ⟨rfl, by
      show (SemLoc.dma cc0_scoped1.sem : SemLoc sig).isScoped .scVector = true; decide⟩⟩)]

omit [FloatOps F] in
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-- The counting loop's invariant: the fetched chunk whole, the accumulator at the counts so far. -/
def scInv (b : S10000.Idx → Elt F .i32) (k : Nat) (acc : FVec F S16 .f32) : sProp 𝕄 :=
  iprop(⌜acc = scAcc b k⌝ ∗ (sB).view.loc (V d (cV L) (jV L)) ↦{fullShare} b)

theorem tile_body (hF : (K (F := F)).Facts) (O : CellTallies nD τ sig (HIx 1)) (W : Waits sig (HIx 1)) (hO : ∀ g, O g none = 0) :
    iprop(levAts (K (F := F)).L (K (F := F)).lev ∗ emp ∗ goPts T G d (wL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__sc_body L tV (Memref.isWhole_whole _) cV' (Memref.isWhole_whole _) sB (Memref.isWhole_whole _) sO (Memref.isWhole_whole _)
            cc0_scoped0 cc0_scoped1)
          fun _ => iprop(tdPts T d (wL L)
            ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W') := by
  rw [(K (F := F)).scopedBufs_V hF d (cV L) (jV L), SparseCore.Cfg.scopedSems0_V (Val := Elt F) d (cV L) (jV L), ownSems0_V, ownBufs_V, cc0__sc_body_eq_skeleton]
  iintro ⟨#Hlv, -, ⟨Ht, Hc⟩, ⟨⟨%fb, Hb⟩, ⟨%fo, Ho⟩, Hbufs⟩, ⟨HsemA, HsemB, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Ht' := (Entails.of_eq (pts_tChunkK (F := F) d L _).symm) $$ Ht
  ihave Hc' := (Entails.of_eq (pts_cRowK (F := F) d L _).symm) $$ Hc
  ihave Hb' := (Entails.of_eq (pts_sB (F := F) d L _).symm) $$ Hb
  ihave Ho' := (Entails.of_eq (pts_sO (F := F) d L _).symm) $$ Ho
  unfold cc0__sc_body_skel
  sl_exec (disch := exact View.amount_pos _ _ (show 0 < S10000.numel by decide))
  have hb : View.write (Elt F) (sB).view fb (tile_body.sl.dma0 T d L) Finset.univ = chunkOf (T d) (wL L) := by
    unfold tile_body.sl.dma0
    rw [ReadAs.apply_same]
    refine (View.write_whole_univ cc0_scratch0 fb _).trans ?_
    funext y
    unfold chunkOf
    refine congrArg (T d) (funext fun a => ?_)
    match a with
    | 0 =>
      apply Fin.ext
      show k0_off1 L 0 + 1 * (y 0).val = 10000 * (wL L).val + (y 0).val
      rw [congrFun (k0_off1_eq L) 0]
      show 20000 * (L 1).val + 10000 * (L 0).val + 1 * (y 0).val = 10000 * (2 * (L 1).val + (L 0).val) + (y 0).val
      ring
  rw [hb]
  sl_for (scInv d L (chunkOf (T d) (wL L))) $$ [Hb']
  case region =>
    intro k acc
    unfold scInv
    iintro ⟨%hacc, Hb⟩
    sl_exec
    sl_step
    isplitr
    · ipureintro
      rw [scAcc_succ, ← hacc]
      rfl
    iexact Hb
  · unfold scInv
    isplitr; · ipureintro; rfl
    iexact Hb'
  iintro %acc HI
  unfold scInv
  icases HI with ⟨%hacc, Hb⟩
  sl_exec (disch := exact View.amount_pos _ _ (show 0 < S1x16.numel by decide))
  have hc : ∀ x ∈ (cRowK L).view.set, (cRowK L).view.writes (Elt F) (G d) [⟨Rect.whole S1x16, tile_body.sl.dma2 d L fo acc⟩] x = parts (T d) x := by
    intro x hx
    obtain ⟨y, -, rfl⟩ := Finset.mem_map.mp hx
    refine ((cRowK L).view.read_writes_cons_hit_of_coords (Val := Elt F) (G d) (Rect.whole S1x16) _ [] y y (fun a => ?_)).trans ?_
    · show (y a).val = 0 + 1 * (y a).val; omega
    unfold tile_body.sl.dma2 tile_body.sl.Ho'_1
    rw [ReadAs.apply_same]
    refine ((sO).view.read_writes_cons_hit_of_coords (Val := Elt F) fo (Rect.unit (s := S1x16) ![0, 0] S1x16.size inb_S1x16_S1x16_0_0) _ [] y y (fun a => ?_)).trans ?_
    · match a with
      | 0 => show (y 0).val = 0 + 1 * (y 0).val; omega
      | 1 => show (y 1).val = 0 + 1 * (y 1).val; omega
    obtain ⟨u, l, rfl⟩ : ∃ (u : Fin 1) (l : Fin 16), y = ValueIdx.ix2 u l := ⟨y 0, y 1, funext fun a => match a with | 0 => rfl | 1 => rfl⟩
    rw [ValueIdx.shapeCast_a_1a_apply, hacc]
    have he : (cRowK L).view.emb (ValueIdx.ix2 u l) = ValueIdx.ix3 (wL L) (0 : Fin 1) l := by
      show (crowK L).emb (Shape.reshapeEquiv _ (ValueIdx.ix2 u l)) = _
      rw [ValueIdx.reshapeEquiv_ix2_1ab]
      refine Rect.emb_eq_of_coords _ _ _ fun a => ?_
      match a with
      | 0 =>
        show 2 * (L 1).val + (L 0).val = k0_off3 L 0 + 1 * 0
        rw [congrFun (k0_off3_eq L) 0]; rfl
      | 1 =>
        show 0 = k0_off3 L 1 + 1 * u.val
        rw [congrFun (k0_off3_eq L) 1]; show 0 = 0 + 1 * u.val; omega
      | 2 =>
        show l.val = k0_off3 L 2 + 1 * l.val
        rw [congrFun (k0_off3_eq L) 2]; show l.val = 0 + 1 * l.val; omega
    rw [he]
    unfold parts
    refine congrArg (scAcc _ _) (funext fun a => match a with | 0 => rfl)
  sl_step
  isplitl [Hc' Ht']
  · isplitl [Ht']; · iapply (Entails.of_eq (pts_tChunkK (F := F) d L _)); iexact Ht'
    iapply (Entails.of_eq (pts_cRowK (F := F) d L _))
    iapply (Entails.of_eq (pointsTo_congr hc)); iexact Hc'
  isplitl [Hb Ho' Hbufs]
  · isplitl [Hb]; · iexists _; iexact Hb
    isplitl [Ho']; · iexists _; iexact Ho'
    iexact Hbufs
  isplitl [HsemA HsemB Hsems]
  · isplitl [HsemA]; · iexact HsemA
    isplitl [HsemB]; · iexact HsemB
    iexact Hsems
  iexists _; isplitr
  swap; · iexact HO
  ipureintro; intro p _
  rcases p.2 with _ | q
  · exact .inr (.inl rfl)
  · exact .inr (.inr (congrArg some (Subsingleton.elim q 0)))

end Tile

end Cert.Proof.Run

end
-- ==== Proof.ScCall.lean ====
/-
  The SparseCore call as the launch theorem asks for it: the tile's obligation, and the two arrays split among the
  thirty-two tiles and joined again.
-/
module

public import proofs.«01_k».proof.Proof.Sc

@[expose] public section

set_option maxRecDepth 16384

noncomputable section

namespace Cert.Proof.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "tV" => (Memref.whole Cert.KernelIdeal.main_v3_scv : Memref Cert.KernelIdeal.sig Kind.scVector Space.hbm Cert.KernelIdeal.S320000 EltTy.i32)
local notation "cV'" => (Memref.whole Cert.KernelIdeal.main_v4_scv : Memref Cert.KernelIdeal.sig Kind.scVector Space.hbm Cert.KernelIdeal.S32x1x16 EltTy.f32)
local notation "sB" => (Memref.whole Cert.KernelIdeal.cc0_scratch0 : Memref Cert.KernelIdeal.sig Kind.scVector Space.vmem Cert.KernelIdeal.S10000 EltTy.i32)
local notation "sO" => (Memref.whole Cert.KernelIdeal.cc0_scratch1 : Memref Cert.KernelIdeal.sig Kind.scVector Space.vmem Cert.KernelIdeal.S1x16 EltTy.f32)

variable (T : (d : Dev nD) → Buf (Elt F) (tLoc d)) (G : (d : Dev nD) → Buf (Elt F) (cLoc d))

/-! ## The tile's obligation -/

section Obl
variable [FloatOps F]

/-- The tile's place in the grid. -/
def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__sc_body (coordsV c s)
          tV (Memref.isWhole_whole _) cV' (Memref.isWhole_whole _) sB (Memref.isWhole_whole _) sO (Memref.isWhole_whole _)
          cc0_scoped0 cc0_scoped1) ⟨⟩ c s := rfl

theorem tileObl (hF : (K (F := F)).Facts) : (K (F := F)).TileObl (D (F := F)) 𝒱 (P T G) v₀ 0 := by
  intro d c i O W hO _ _
  simp only [show (P (F := F) T G).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body T G d (coordsV ⟨_, hci.1⟩ ⟨_, hci.2⟩) hF O W hO

/-- A core takes exactly its tiles' shares and returns exactly what they return. -/
theorem vecSplit : (K (F := F)).VecSplit' (P T G) 0 := by
  intro d c
  show (bigSep Finset.univ fun i : Fin ((K (F := F)).nSub 0) => goPts T G d (widK (F := F) c i)) ⊢ |={Set.univ}=> iprop(
      (bigSep Finset.univ fun i : Fin ((K (F := F)).nSub 0) => goPts T G d (widK (F := F) c i))
      ∗ ((bigSep Finset.univ fun i : Fin ((K (F := F)).nSub 0) => tdPts T d (widK (F := F) c i))
          -∗ (bigSep Finset.univ fun i : Fin ((K (F := F)).nSub 0) => tdPts T d (widK (F := F) c i))))
  iintro H; imodintro
  isplitl [H]; · iexact H
  iintro H; iexact H

end Obl

/-! ## The arrays split among the tiles -/

theorem chunkSet_eq (w : Fin 32) : chunkSet w = (chunk w).set := by
  show ((View.whole (main_v3_scv : Ref sig .scVector)).slice (chunk w)).set = _
  rw [View.set_slice]; exact Finset.map_refl
theorem chunks_disjoint : ∀ v ∈ (Finset.univ : Finset (Fin 32)), ∀ w ∈ (Finset.univ : Finset (Fin 32)), v ≠ w → Disjoint (chunkSet v) (chunkSet w) :=
  fun v _ w _ h => by rw [chunkSet_eq, chunkSet_eq]; exact Rect.part_disjoint hdivT h
theorem chunks_cover : (Finset.univ : Finset (Fin 32)).biUnion chunkSet = Finset.univ :=
  (Finset.biUnion_congr rfl fun w _ => chunkSet_eq w).trans (Rect.biUnion_part hdivT)
theorem crowSet_eq (w : Fin 32) : crowSet w = (crow w).set := by
  show ((View.whole (main_v4_scv : Ref sig .scVector)).slice (crow w)).set = _
  rw [View.set_slice]; exact Finset.map_refl
theorem crows_disjoint : ∀ v ∈ (Finset.univ : Finset (Fin 32)), ∀ w ∈ (Finset.univ : Finset (Fin 32)), v ≠ w → Disjoint (crowSet v) (crowSet w) :=
  fun v _ w _ h => by rw [crowSet_eq, crowSet_eq]; exact Rect.part_disjoint hdivC h
theorem crows_cover : (Finset.univ : Finset (Fin 32)).biUnion crowSet = Finset.univ :=
  (Finset.biUnion_congr rfl fun w _ => crowSet_eq w).trans (Rect.biUnion_part hdivC)

theorem tPts_split (d : Dev nD) (f : Buf (Elt F) (tLoc d)) :
    (tLoc d ↦{fullShare} f : sProp 𝕄) = bigSep Finset.univ fun w : Fin 32 => tPts d w f := by
  rw [← pointsTo_biUnion Finset.univ (ℓ := tLoc d) chunkSet chunks_disjoint, chunks_cover]; try rfl
theorem cPts_split (d : Dev nD) (f : Buf (Elt F) (cLoc d)) :
    (cLoc d ↦{fullShare} f : sProp 𝕄) = bigSep Finset.univ fun w : Fin 32 => cPts d w f := by
  rw [← pointsTo_biUnion Finset.univ (ℓ := cLoc d) crowSet crows_disjoint, crows_cover]; try rfl

/-- The tiles counted by core and subcore, or by their number. -/
def widEquiv : Fin 2 × Fin 16 ≃ Fin 32 where
  toFun p := wid p.1 p.2
  invFun w := (⟨w.val % 2, by omega⟩, ⟨w.val / 2, by omega⟩)
  left_inv p := by
    obtain ⟨c, i⟩ := p
    have := c.isLt; have := i.isLt
    refine Prod.ext (Fin.ext ?_) (Fin.ext ?_)
    · show (2 * i.val + c.val) % 2 = c.val; omega
    · show (2 * i.val + c.val) / 2 = i.val; omega
  right_inv w := Fin.ext (show 2 * (w.val / 2) + w.val % 2 = w.val by omega)

theorem bigSep_wid (Φ : Fin 32 → sProp 𝕄) :
    (bigSep Finset.univ fun c : Fin ((K (F := F)).nCore 0) => bigSep Finset.univ fun i : Fin ((K (F := F)).nSub 0) => Φ (widK (F := F) c i))
      = bigSep Finset.univ Φ := by
  show (bigSep Finset.univ fun c : Fin 2 => bigSep Finset.univ fun i : Fin 16 => Φ (wid c i)) = _
  rw [bigSep_univ_equiv widEquiv Φ]
  exact (bigSep_univ_prod (fun p : Fin 2 × Fin 16 => Φ (wid p.1 p.2))).symm

variable [FloatOps F]

theorem st0_eq (d : Dev nD) :
    (bigSep Finset.univ fun c : Fin ((K (F := F)).nCore 0) => (P T G).st 0 d c)
      = iprop((tLoc d ↦{fullShare} T d) ∗ (cLoc d ↦{fullShare} G d) : sProp 𝕄) := by
  rw [tPts_split, cPts_split, ← bigSep_sep']
  exact bigSep_wid (F := F) (fun w => goPts T G d w)
theorem dn0_eq (d : Dev nD) :
    (bigSep Finset.univ fun c : Fin ((K (F := F)).nCore 0) => (P T G).dn 0 d c)
      = iprop((tLoc d ↦{fullShare} T d) ∗ (cLoc d ↦{fullShare} parts (T d)) : sProp 𝕄) := by
  rw [tPts_split, cPts_split, ← bigSep_sep']
  exact bigSep_wid (F := F) (fun w => tdPts T d w)

end Cert.Proof.Run

end
-- ==== Proof.TcDefs.lean ====
/-
  The values the TensorCore call computes: at each of its four points, what the class loop, its tail, the box term, and
  (at the last point) the correction loop and the loss leave, as functions of the windows' blocks.
-/
module

public import proofs.«01_k».proof.Proof.Setup
public import Idealize.ShloMosaic.Lib.VecWindow

@[expose] public section

noncomputable section

namespace Cert.Proof.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

variable [FloatOps F]

/-- The blocks' types. -/
abbrev BX (F : FTy → Type) : Type := S5x16x20000.Idx → Elt F .f32
abbrev BT (F : FTy → Type) : Type := S16x20000.Idx → Elt F .i32
abbrev BS (F : FTy → Type) : Type := S16x20000.Idx → Elt F .f32
abbrev BL (F : FTy → Type) : Type := S8x4x20000.Idx → Elt F .f32
abbrev BP (F : FTy → Type) : Type := S32x1x16.Idx → Elt F .f32
abbrev B1 (F : FTy → Type) : Type := S1x1.Idx → Elt F .f32

/-! ## The class loop: thirty-one blocks of 640 columns, then the tail of 160 -/

section Class

variable (i : grid1.Coords) (x : BX F) (tg : BT F)

abbrev a0 (i : grid1.Coords) : BitVec 32 := BitVec.ofNat 32 (i 0).val

/-- The five class rows, the targets and the picked logits at trip `k`. -/
abbrev xA (k : Fin k1_t1_loop.trips) : Vec F S1x16x640 .f32 := View.ld x (Rect.unit (s := S5x16x20000) (k1_off2 k) S1x16x640.size (k1_off2_inb k))
abbrev xB (k : Fin k1_t1_loop.trips) : Vec F S1x16x640 .f32 := View.ld x (Rect.unit (s := S5x16x20000) (k1_off3 k) S1x16x640.size (k1_off3_inb k))
abbrev xC (k : Fin k1_t1_loop.trips) : Vec F S1x16x640 .f32 := View.ld x (Rect.unit (s := S5x16x20000) (k1_off4 k) S1x16x640.size (k1_off4_inb k))
abbrev xD (k : Fin k1_t1_loop.trips) : Vec F S1x16x640 .f32 := View.ld x (Rect.unit (s := S5x16x20000) (k1_off5 k) S1x16x640.size (k1_off5_inb k))
abbrev xE (k : Fin k1_t1_loop.trips) : Vec F S1x16x640 .f32 := View.ld x (Rect.unit (s := S5x16x20000) (k1_off6 k) S1x16x640.size (k1_off6_inb k))
abbrev tgA (k : Fin k1_t1_loop.trips) : Vec F S16x640 .i32 := View.ld tg (Rect.unit (s := S16x20000) (k1_off1 k) S16x640.size (k1_off1_inb k))
abbrev xtA (xt : BS F) (k : Fin k1_t1_loop.trips) : Vec F S16x640 .f32 := View.ld xt (Rect.unit (s := S16x20000) (k1_off1 k) S16x640.size (k1_off1_inb k))

/-- One trip's new accumulator. -/
def clsV (k : Fin k1_t1_loop.trips) (acc : FVec F S16x640 .f32) : FVec F S16x640 .f32 :=
  k1_pay19 (k1_pay14 (k1_pay8 (k1_pay5 acc (xA x k)) (k1_pay7 (xB x k))) (k1_pay10 (xC x k)) (k1_pay11 (xC x k)) (k1_pay12 (xC x k)) (k1_pay13 (F := F)))
    (k1_pay17 (xD x k)) (xE x k)

/-- One trip's picked logits. -/
def clsW (xt : BS F) (k : Fin k1_t1_loop.trips) : FVec F S16x640 .f32 :=
  k1_pay36 (k1_pay20 (a0 i) (tgA tg k)
    (k1_pay15 (a0 i) (tgA tg k) (k1_pay9 (a0 i) (tgA tg k) (k1_pay6 (a0 i) (tgA tg k) (xtA xt k) (xA x k)) (k1_pay7 (xB x k))) (k1_pay10 (xC x k)))
    (k1_pay16 (xD x k)) (xE x k))

/-- The accumulator, and the picked logits, after `n` trips. -/
def clsAcc : ℕ → FVec F S16x640 .f32
  | 0 => k1_pay35
  | n + 1 => if h : n < k1_t1_loop.trips then clsV x ⟨n, h⟩ (clsAcc n) else clsAcc n
def clsXt (xt : BS F) : ℕ → BS F
  | 0 => xt
  | n + 1 => if h : n < k1_t1_loop.trips then VecWindow.put (clsXt xt n) (k1_off1 ⟨n, h⟩) S16x640.size (clsW i x tg (clsXt xt n) ⟨n, h⟩) else clsXt xt n

theorem clsAcc_succ (k : Fin k1_t1_loop.trips) : clsAcc x (k.val + 1) = clsV x k (clsAcc x k.val) := by
  rw [clsAcc, dif_pos k.isLt]
theorem clsXt_succ (xt : BS F) (k : Fin k1_t1_loop.trips) :
    clsXt i x tg xt (k.val + 1) = VecWindow.put (clsXt i x tg xt k.val) (k1_off1 k) S16x640.size (clsW i x tg (clsXt i x tg xt k.val) k) := by
  rw [clsXt, dif_pos k.isLt]

/-- The tail's loads. -/
abbrev xTA : Vec F S1x16x160 .f32 := View.ld x (Rect.unit (s := S5x16x20000) ![0, 0, 19840] S1x16x160.size inb_S5x16x20000_S1x16x160_0_0_19840)
abbrev xTB : Vec F S1x16x160 .f32 := View.ld x (Rect.unit (s := S5x16x20000) ![1, 0, 19840] S1x16x160.size inb_S5x16x20000_S1x16x160_1_0_19840)
abbrev xTC : Vec F S1x16x160 .f32 := View.ld x (Rect.unit (s := S5x16x20000) ![2, 0, 19840] S1x16x160.size inb_S5x16x20000_S1x16x160_2_0_19840)
abbrev xTD : Vec F S1x16x160 .f32 := View.ld x (Rect.unit (s := S5x16x20000) ![3, 0, 19840] S1x16x160.size inb_S5x16x20000_S1x16x160_3_0_19840)
abbrev xTE : Vec F S1x16x160 .f32 := View.ld x (Rect.unit (s := S5x16x20000) ![4, 0, 19840] S1x16x160.size inb_S5x16x20000_S1x16x160_4_0_19840)
abbrev tgT : Vec F S16x160 .i32 := View.ld tg (Rect.unit (s := S16x20000) ![0, 19840] S16x160.size inb_S16x20000_S16x160_0_19840)
abbrev xtT (xt : BS F) : Vec F S16x160 .f32 := View.ld xt (Rect.unit (s := S16x20000) ![0, 19840] S16x160.size inb_S16x20000_S16x160_0_19840)

/-- The tail's picked logits, after the second and the fourth class and all five. -/
def tail2 (xt : BS F) : FVec F S16x160 .f32 := k1_pay40 (a0 i) (tgT tg) (xtT xt) (k1_pay38 (xTA x))
def tail3 (xt : BS F) : FVec F S16x160 .f32 :=
  k1_pay45 (a0 i) (tgT tg) (tail2 i x tg xt) (k1_pay41 (xTB x)) (Scalar.addi (Scalar.muli (a0 i) 5#32) 1#32) (xTC x)
def tail4 (xt : BS F) : FVec F S16x160 .f32 := k1_pay48 (a0 i) (tgT tg) (tail3 i x tg xt) (xTD x)
def tailW (xt : BS F) : FVec F S16x160 .f32 := k1_pay51 (a0 i) (tgT tg) (tail4 i x tg xt) (k1_pay49 (xTE x))

/-- The dense sum after the classes of this point, from the sum before it. -/
def sum1 : F .f32 := k1_pay37 (clsAcc x k1_t1_loop.trips)
def sum2 : F .f32 := k1_pay42 (sum1 x) (k1_pay39 (xTA x)) (xTB x)
def sum3 : F .f32 := k1_pay44 (sum2 x) (xTC x)
def sum4 : F .f32 := k1_pay47 (sum3 x) (xTD x)
def denseNext (d : F .f32) : F .f32 := k1_pay52 (sum4 x) (k1_pay49 (xTE x)) (k1_pay50 (xTE x)) d

/-- The picked logits after this point. -/
def xtNext (xt : BS F) : BS F :=
  VecWindow.put (clsXt i x tg xt k1_t1_loop.trips) ![0, 19840] S16x160.size (tailW i x tg (clsXt i x tg xt k1_t1_loop.trips))

end Class

/-! ## The box term -/

/-- The sum of the box terms after a point below two. -/
def boxNext (i : grid1.Coords) (h2 : k1_cond2 i = 1#1) (tg : BT F) (lp lt : BL F) (l : F .f32) : F .f32 :=
  k1_pay1 (View.ld tg (Rect.unit (s := S16x20000) (k1_off7 i) S8x20000.size (k1_off7_inb i h2))) lp lt l

/-! ## The correction loop, and the loss -/

section Corr

variable (tg : BT F) (xt : BS F)

theorem off8_inb (k : Fin k1_t2_loop.trips) : ∀ a, (k1_off8 k) a + S16x640.size a ≤ S16x20000.size a := by
  have : ∀ k : Fin k1_t2_loop.trips, ∀ a, (k1_off8 k) a + S16x640.size a ≤ S16x20000.size a := by decide +kernel
  exact this k

def corV (k : Fin k1_t2_loop.trips) (acc : FVec F S16x640 .f32) : FVec F S16x640 .f32 :=
  k1_pay23 acc (k1_pay21 (View.ld tg (Rect.unit (s := S16x20000) (k1_off8 k) S16x640.size (off8_inb k)))
    (View.ld xt (Rect.unit (s := S16x20000) (k1_off8 k) S16x640.size (off8_inb k))))

def corAcc : ℕ → FVec F S16x640 .f32
  | 0 => k1_pay22
  | n + 1 => if h : n < k1_t2_loop.trips then corV tg xt ⟨n, h⟩ (corAcc n) else corAcc n

theorem corAcc_succ (k : Fin k1_t2_loop.trips) : corAcc tg xt (k.val + 1) = corV tg xt k (corAcc tg xt k.val) := by
  rw [corAcc, dif_pos k.isLt]

/-- The correction, and the loss. -/
def corSum : F .f32 :=
  k1_pay2 (k1_pay24 (corAcc tg xt k1_t2_loop.trips)) (k1_pay25 (tgT tg)) (k1_pay30 (xtT xt)) (k1_pay31 (xtT xt)) (k1_pay32 (xtT xt)) (k1_pay33 (xtT xt))
def lossVal (pc : BP F) (d l : F .f32) : F .f32 :=
  k1_pay3 (k1_pay24 (corAcc tg xt k1_t2_loop.trips)) (k1_pay25 (tgT tg)) (k1_pay30 (xtT xt)) (k1_pay31 (xtT xt)) (k1_pay32 (xtT xt)) (k1_pay33 (xtT xt))
    pc d l

end Corr

end Cert.Proof.Run

end
-- ==== Proof.TcBody.lean ====
/-
  The TensorCore body at one grid point: from the windows' blocks and the scratch, what it leaves.
-/
module

public import proofs.«01_k».proof.Proof.TcDefs

@[expose] public section

set_option maxRecDepth 16384

noncomputable section

namespace Cert.Proof.Run

open Cert.KernelIdeal Cert.KernelIdeal.Gen

open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

variable [FloatOps F]

local notation "𝕄" => MT nD τ sig (HIx 1) (Elt F) ℕ UU ℕ

variable (c : Dev nD) (i : grid1.Coords) (M1 : Memref sig .tc .vmem S5x16x20000 .f32) (h1 : M1.IsWhole) (M2 : Memref sig .tc .vmem S16x20000 .i32) (h2 : M2.IsWhole)
  (M3 : Memref sig .tc .vmem S8x4x20000 .f32) (h3 : M3.IsWhole) (M4 : Memref sig .tc .vmem S8x4x20000 .f32) (h4 : M4.IsWhole)
  (M5 : Memref sig .tc .vmem S32x1x16 .f32) (h5 : M5.IsWhole) (M6 : Memref sig .tc .smem S1x1 .f32) (h6 : M6.IsWhole)
  (M7 : Memref sig .tc .smem S1x1 .f32) (h7 : M7.IsWhole) (M8 : Memref sig .tc .smem S1x1 .f32) (h8 : M8.IsWhole)
  (M9 : Memref sig .tc .smem S1x1 .f32) (h9 : M9.IsWhole) (M10 : Memref sig .tc .vmem S16x20000 .f32) (h10 : M10.IsWhole)

/-- Core `c` owns the memref whole, reading `X` through it. -/
abbrev own {sp : Space} {sh : Shape} {e : EltTy} (c : Dev nD) (m : Memref sig .tc sp sh e) (X : sh.Idx → Elt F e) : sProp 𝕄 :=
  owns (c : Thread nD τ) m fullShare X

/-- The class loop's invariant. -/
def clsInv (x : BX F) (tg : BT F) (xt : BS F) (k : Nat) (acc : FVec F S16x640 .f32) : sProp 𝕄 :=
  iprop(⌜acc = clsAcc x k⌝ ∗ own c M1 x ∗ own c M2 tg ∗ own c M10 (clsXt i x tg xt k))

/-- What the first point resets. -/
def d0 (i : grid1.Coords) (d : B1 F) : B1 F := if k1_cond1 i = 1#1 then fun _ => Scalar.ofBits .f32 0x00000000#32 else d
def xt0 (i : grid1.Coords) (xt : BS F) : BS F := if k1_cond1 i = 1#1 then k1_pay34 else xt

/-- One trip of the class loop. -/
theorem cls_trip (x : BX F) (tg : BT F) (xt : BS F) (k : Fin k1_t1_loop.trips) (acc : FVec F S16x640 .f32) :
    clsInv c i M1 M2 M10 x tg xt k.val acc
      ⊢ wp frame (wpE (defs₀ (F := F)) 𝒱₀ c none) Set.univ
          (k1_t1_body (F := F) i M1 h1 M2 h2 M3 h3 M4 h4 M5 h5 M6 h6 M7 h7 M8 h8 M9 h9 M10 h10 (a0 i) k acc)
          (clsInv c i M1 M2 M10 x tg xt (k.val + 1)) := by
  unfold clsInv own owns
  iintro ⟨%hacc, ⟨%f1, %hf1, H1⟩, ⟨%f2, %hf2, H2⟩, ⟨%f10, %hf10, H10⟩⟩
  subst hf1 hf2 hacc
  unfold k1_t1_body
  sl_exec
  sl_step
  isplitr
  · ipureintro; rw [clsAcc_succ]; rfl
  isplitl [H1]
  · iexists _; isplitr; swap; (· iexact H1); ipureintro; rfl
  isplitl [H2]
  · iexists _; isplitr; swap; (· iexact H2); ipureintro; rfl
  iexists _; isplitr; swap; (· iexact H10); ipureintro
  rw [clsXt_succ, ← hf10]
  refine (View.read_writes_cons_put M10.view f10 (k1_off1_inb k) _ [] rfl).trans ?_
  rfl

theorem part7 (x : BX F) (tg : BT F) (d l : B1 F) (xt : BS F) :
    iprop(own c M1 x ∗ own c M2 tg ∗ own c M6 d ∗ own c M7 l ∗ own c M10 xt)
      ⊢ wp frame (wpE (defs₀ (F := F)) 𝒱₀ c none) Set.univ
          (k1_part7 (F := F) i M1 h1 M2 h2 M3 h3 M4 h4 M5 h5 M6 h6 M7 h7 M8 h8 M9 h9 M10 h10)
          fun r => iprop(⌜r = ⟨a0 i, sum1 x, tgT tg, xtT (clsXt i x tg (xt0 i xt) k1_t1_loop.trips), k1_pay38 (xTA x), k1_pay39 (xTA x)⟩⌝
            ∗ own c M1 x ∗ own c M2 tg ∗ own c M6 (d0 i d) ∗ own c M7 (d0 i l) ∗ own c M10 (clsXt i x tg (xt0 i xt) k1_t1_loop.trips)) := by
  rw [k1_part7_eq_skeleton]
  unfold own owns
  iintro ⟨⟨%f1, %hf1, H1⟩, ⟨%f2, %hf2, H2⟩, ⟨%f6, %hf6, H6⟩, ⟨%f7, %hf7, H7⟩, ⟨%f10, %hf10, H10⟩⟩
  unfold k1_part7_skel
  by_cases hc : k1_cond1 i = 1#1
  · sl_exec
    sl_for (clsInv c i M1 M2 M10 x tg (xt0 i xt)) $$ [H1 H2 H10]
    case region =>
      intro k acc
      exact cls_trip c i M1 h1 M2 h2 M3 h3 M4 h4 M5 h5 M6 h6 M7 h7 M8 h8 M9 h9 M10 h10 x tg (xt0 i xt) k acc
    · unfold clsInv own owns
      isplitr; · ipureintro; rfl
      isplitl [H1]
      · iexists _; isplitr; swap; (· iexact H1); ipureintro; exact hf1
      isplitl [H2]
      · iexists _; isplitr; swap; (· iexact H2); ipureintro; exact hf2
      iexists _; isplitr; swap; (· iexact H10); ipureintro
      unfold xt0; rw [if_pos hc]
      exact View.read_writes_full M10.view _ _ _ []
    iintro %acc HI
    unfold clsInv own owns
    icases HI with ⟨%hacc, ⟨%f1, %hf1, H1⟩, ⟨%f2, %hf2, H2⟩, ⟨%f10, %hf10, H10⟩⟩
    subst hf1 hf2 hacc
    sl_exec
    sl_step
    isplitr
    · ipureintro; rw [← hf10]; rfl
    isplitl [H1]
    · iexists _; isplitr; swap; (· iexact H1); ipureintro; rfl
    isplitl [H2]
    · iexists _; isplitr; swap; (· iexact H2); ipureintro; rfl
    isplitl [H6]
    · iexists _; isplitr; swap; (· iexact H6); ipureintro
      unfold d0; rw [if_pos hc]; exact View.read_writes_full M6.view _ _ _ []
    isplitl [H7]
    · iexists _; isplitr; swap; (· iexact H7); ipureintro
      unfold d0; rw [if_pos hc]; exact View.read_writes_full M7.view _ _ _ []
    iexists _; isplitr; swap; (· iexact H10); ipureintro; exact hf10
  · sl_exec
    sl_for (clsInv c i M1 M2 M10 x tg (xt0 i xt)) $$ [H1 H2 H10]
    case region =>
      intro k acc
      exact cls_trip c i M1 h1 M2 h2 M3 h3 M4 h4 M5 h5 M6 h6 M7 h7 M8 h8 M9 h9 M10 h10 x tg (xt0 i xt) k acc
    · unfold clsInv own owns
      isplitr; · ipureintro; rfl
      isplitl [H1]
      · iexists _; isplitr; swap; (· iexact H1); ipureintro; exact hf1
      isplitl [H2]
      · iexists _; isplitr; swap; (· iexact H2); ipureintro; exact hf2
      iexists _; isplitr; swap; (· iexact H10); ipureintro
      unfold xt0; rw [if_neg hc]; exact hf10
    iintro %acc HI
    unfold clsInv own owns
    icases HI with ⟨%hacc, ⟨%f1, %hf1, H1⟩, ⟨%f2, %hf2, H2⟩, ⟨%f10, %hf10, H10⟩⟩
    subst hf1 hf2 hacc
    sl_exec
    sl_step
    isplitr
    · ipureintro; rw [← hf10]; rfl
    isplitl [H1]
    · iexists _; isplitr; swap; (· iexact H1); ipureintro; rfl
    isplitl [H2]
    · iexists _; isplitr; swap; (· iexact H2); ipureintro; rfl
    isplitl [H6]
    · iexists _; isplitr; swap; (· iexact H6); ipureintro
      unfold d0; rw [if_neg hc]; exact hf6
    isplitl [H7]
    · iexists _; isplitr; swap; (· iexact H7); ipureintro
      unfold d0; rw [if_neg hc]; exact hf7
    iexists _; isplitr; swap; (· iexact H10); ipureintro; exact hf10

/-- The correction loop's invariant. -/
def corInv (tg : BT F) (xt : BS F) (k : Nat) (acc : FVec F S16x640 .f32) : sProp 𝕄 :=
  iprop(⌜acc = corAcc tg xt k⌝ ∗ own c M2 tg ∗ own c M10 xt)

/-- One trip of the correction loop. -/
theorem cor_trip (hc : k1_cond3 i = 1#1) (tg : BT F) (xt : BS F) (k : Fin k1_t2_loop.trips) (acc : FVec F S16x640 .f32) :
    corInv c M2 M10 tg xt k.val acc
      ⊢ wp frame (wpE (defs₀ (F := F)) 𝒱₀ c none) Set.univ
          (k1_t2_body (F := F) i M1 h1 M2 h2 M3 h3 M4 h4 M5 h5 M6 h6 M7 h7 M8 h8 M9 h9 M10 h10 hc k acc)
          (corInv c M2 M10 tg xt (k.val + 1)) := by
  unfold corInv own owns
  iintro ⟨%hacc, ⟨%f2, %hf2, H2⟩, ⟨%f10, %hf10, H10⟩⟩
  subst hf2 hf10 hacc
  unfold k1_t2_body
  sl_exec
  sl_step
  isplitr
  · ipureintro; rw [corAcc_succ]; rfl
  isplitl [H2]
  · iexists _; isplitr; swap; (· iexact H2); ipureintro; rfl
  iexists _; isplitr; swap; (· iexact H10); ipureintro; rfl

/-! ### What the body leaves in the results' buffers -/

/-- The only index of a one by one buffer. -/
def z11 : S1x1.Idx := fun a => ⟨0, by fin_cases a <;> decide⟩
theorem eq11 (y y' : S1x1.Idx) : y = y' := by
  funext a; apply Fin.ext
  have h : ∀ a : Fin 2, S1x1.size a = 1 := by decide
  have h1 := (y a).isLt; have h2 := (y' a).isLt
  have h3 := h a
  show (y a).val = (y' a).val
  omega
abbrev dense1 (i : grid1.Coords) (x : BX F) (d : B1 F) : B1 F := fun _ => denseNext x (d0 i d z11)
def box1 (i : grid1.Coords) (tg : BT F) (lp lt : BL F) (l : B1 F) : B1 F :=
  if h : k1_cond2 i = 1#1 then fun _ => boxNext i h tg lp lt (d0 i l z11) else d0 i l
abbrev xt1 (i : grid1.Coords) (x : BX F) (tg : BT F) (xt : BS F) : BS F := xtNext i x tg (xt0 i xt)
def cor1 (i : grid1.Coords) (tg : BT F) (xt : BS F) (s : B1 F) : B1 F :=
  if k1_cond3 i = 1#1 then fun _ => corSum tg xt else s
def loss1 (i : grid1.Coords) (tg : BT F) (xt : BS F) (pc : BP F) (d l v : B1 F) : B1 F :=
  if k1_cond3 i = 1#1 then fun _ => lossVal tg xt pc (d z11) (l z11) else v

omit [FloatOps F] in
/-- Any element of a one by one buffer is its only one. -/
theorem at11 (M : Memref sig .tc .smem S1x1 .f32) (f : M.view.ty.Contents (Elt F)) {d : B1 F} (hf : View.read (Elt F) M.view f = d) (y : S1x1.Idx) :
    View.read (Elt F) M.view f y = d z11 := by rw [hf, eq11 y z11]

variable {c i} in
theorem xt_stored {x : BX F} {tg : BT F} {xt : BS F} (f10 : M10.view.ty.Contents (Elt F))
    (hf10 : View.read (Elt F) M10.view f10 = clsXt i x tg (xt0 i xt) k1_t1_loop.trips) (w : FVec F S16x160 .f32)
    (hw : w = tailW i x tg (clsXt i x tg (xt0 i xt) k1_t1_loop.trips)) :
    View.read (Elt F) M10.view (M10.view.writes (Elt F) f10 [⟨Rect.unit ![0, 19840] S16x160.size inb_S16x20000_S16x160_0_19840, w⟩])
      = xt1 i x tg xt := by
  refine (View.read_writes_cons_put M10.view f10 inb_S16x20000_S16x160_0_19840 w [] rfl).trans ?_
  unfold xt1 xtNext
  rw [hw, ← hf10]
  rfl

variable {c i} in
theorem dense_stored {x : BX F} {d : B1 F} (f6 : M6.view.ty.Contents (Elt F)) (hf6 : View.read (Elt F) M6.view f6 = d0 i d)
    (f : M6.view.ty.Contents (Elt F)) (w : S1x1.Idx → F .f32) (y : S1x1.Idx) (hw : w = fun _ => denseNext x (View.read (Elt F) M6.view f6 y)) :
    View.read (Elt F) M6.view (M6.view.writes (Elt F) f [⟨Rect.unit ![0, 0] S1x1.size inb_S1x1_S1x1_0_0, w⟩]) = dense1 i x d := by
  refine (View.read_writes_full M6.view f inb_S1x1_S1x1_0_0 w []).trans ?_
  rw [hw, at11 M6 f6 hf6]

/-- One point's body. -/
theorem body (x : BX F) (tg : BT F) (lp lt : BL F) (pc : BP F) (d l s v : B1 F) (xt : BS F) :
    iprop(own c M1 x ∗ own c M2 tg ∗ own c M3 lp ∗ own c M4 lt ∗ own c M5 pc ∗ own c M6 d ∗ own c M7 l ∗ own c M8 s ∗ own c M9 v ∗ own c M10 xt)
      ⊢ wp frame (wpE (defs₀ (F := F)) 𝒱₀ c none) Set.univ
          (cc1__tc_body (F := F) i M1 h1 M2 h2 M3 h3 M4 h4 M5 h5 M6 h6 M7 h7 M8 h8 M9 h9 M10 h10)
          fun _ => iprop(own c M1 x ∗ own c M2 tg ∗ own c M3 lp ∗ own c M4 lt ∗ own c M5 pc ∗ own c M6 (dense1 i x d)
            ∗ own c M7 (box1 i tg lp lt l) ∗ own c M8 (cor1 i tg (xt1 i x tg xt) s)
            ∗ own c M9 (loss1 i tg (xt1 i x tg xt) pc (dense1 i x d) (box1 i tg lp lt l) v) ∗ own c M10 (xt1 i x tg xt)) := by
  rw [cc1__tc_body_eq_skeleton]
  iintro ⟨H1, H2, H3, H4, H5, H6, H7, H8, H9, H10⟩
  unfold cc1__tc_body_skel
  rw [wp_bind]
  ihave Hw := (part7 c i M1 h1 M2 h2 M3 h3 M4 h4 M5 h5 M6 h6 M7 h7 M8 h8 M9 h9 M10 h10 x tg d l xt) $$ [H1 H2 H6 H7 H10]
  · isplitl [H1]; · iexact H1
    isplitl [H2]; · iexact H2
    isplitl [H6]; · iexact H6
    isplitl [H7]; · iexact H7
    iexact H10
  iapply wp_wand_r
  isplitl [Hw]; · iexact Hw
  iintro %r ⟨%hr, H1, H2, H6, H7, H10⟩
  subst hr
  unfold own owns
  icases H1 with ⟨%f1, %hf1, H1⟩
  icases H2 with ⟨%f2, %hf2, H2⟩
  icases H3 with ⟨%f3, %hf3, H3⟩
  icases H4 with ⟨%f4, %hf4, H4⟩
  icases H5 with ⟨%f5, %hf5, H5⟩
  icases H6 with ⟨%f6, %hf6, H6⟩
  icases H7 with ⟨%f7, %hf7, H7⟩
  icases H8 with ⟨%f8, %hf8, H8⟩
  icases H9 with ⟨%f9, %hf9, H9⟩
  icases H10 with ⟨%f10, %hf10, H10⟩
  by_cases hc2 : k1_cond2 i = 1#1
  · have hc3 : ¬ k1_cond3 i = 1#1 := by
      have : ∀ i, k1_cond2 i = 1#1 → ¬ k1_cond3 i = 1#1 := by decide +kernel
      exact this i hc2
    sl_exec
    sl_step
    subst hf1 hf2 hf3 hf4 hf5
    isplitl [H1]
    · iexists _; isplitr; swap; (· iexact H1); ipureintro; rfl
    isplitl [H2]
    · iexists _; isplitr; swap; (· iexact H2); ipureintro; rfl
    isplitl [H3]
    · iexists _; isplitr; swap; (· iexact H3); ipureintro; rfl
    isplitl [H4]
    · iexists _; isplitr; swap; (· iexact H4); ipureintro; rfl
    isplitl [H5]
    · iexists _; isplitr; swap; (· iexact H5); ipureintro; rfl
    isplitl [H6]
    · iexists _; isplitr; swap; (· iexact H6); ipureintro;  exact dense_stored M6 f6 hf6 _ _ _ rfl
    isplitl [H7]
    · iexists _; isplitr; swap; (· iexact H7); ipureintro
      unfold box1; rw [dif_pos hc2]
      refine (View.read_writes_full M7.view _ _ _ []).trans ?_
      rw [← hf7, ← eq11 ((Rect.unit (s := S1x1) ![0, 0] S1x1.size inb_S1x1_S1x1_0_0).idx (Shape.Idx.first (by decide))) z11]
      funext y
      rw [← View.readAt_full M3.view f3 inb_S8x4x20000_S8x4x20000_0_0_0, ← View.readAt_full M4.view f4 inb_S8x4x20000_S8x4x20000_0_0_0]
      rfl
    isplitl [H8]
    · iexists _; isplitr; swap; (· iexact H8); ipureintro; unfold cor1; rw [if_neg hc3]; exact hf8
    isplitl [H9]
    · iexists _; isplitr; swap; (· iexact H9); ipureintro; unfold loss1; rw [if_neg hc3]; exact hf9
    iexists _; isplitr; swap; (· iexact H10); ipureintro
    exact xt_stored M10 f10 hf10 _ rfl

  · by_cases hc3 : k1_cond3 i = 1#1
    · sl_exec
      sl_for (corInv c M2 M10 tg (xt1 i x tg xt)) $$ [H2 H10]
      case region =>
        intro k acc
        exact cor_trip c i M1 h1 M2 h2 M3 h3 M4 h4 M5 h5 M6 h6 M7 h7 M8 h8 M9 h9 M10 h10 hc3 tg (xt1 i x tg xt) k acc
      · unfold corInv own owns
        isplitr; · ipureintro; rfl
        isplitl [H2]
        · iexists _; isplitr; swap; (· iexact H2); ipureintro; exact hf2
        iexists _; isplitr; swap; (· iexact H10); ipureintro
        subst hf1
        exact xt_stored M10 f10 hf10 _ rfl

      iintro %acc HI
      unfold corInv own owns
      icases HI with ⟨%hacc, ⟨%g2, %hg2, H2⟩, ⟨%g10, %hg10, H10⟩⟩
      subst hacc
      clear hf2 hf10
      generalize xt1 i x tg xt = xt' at hg10
      subst hg2 hg10
      sl_exec
      sl_step
      subst hf1 hf3 hf4 hf5
      isplitl [H1]
      · iexists _; isplitr; swap; (· iexact H1); ipureintro; rfl
      isplitl [H2]
      · iexists _; isplitr; swap; (· iexact H2); ipureintro; rfl
      isplitl [H3]
      · iexists _; isplitr; swap; (· iexact H3); ipureintro; rfl
      isplitl [H4]
      · iexists _; isplitr; swap; (· iexact H4); ipureintro; rfl
      isplitl [H5]
      · iexists _; isplitr; swap; (· iexact H5); ipureintro; rfl
      isplitl [H6]
      · iexists _; isplitr; swap; (· iexact H6); ipureintro;  exact dense_stored M6 f6 hf6 _ _ _ rfl
      isplitl [H7]
      · iexists _; isplitr; swap; (· iexact H7); ipureintro; unfold box1; rw [dif_neg hc2]; exact hf7
      isplitl [H8]
      · iexists _; isplitr; swap; (· iexact H8); ipureintro;
        unfold cor1; rw [if_pos hc3]
        refine (View.read_writes_full M8.view _ _ _ []).trans ?_
        rfl
      isplitl [H9]
      · iexists _; isplitr; swap; (· iexact H9); ipureintro;
        unfold loss1; rw [if_pos hc3]
        refine (View.read_writes_full M9.view _ _ _ []).trans ?_
        funext y
        have hb : View.read (Elt F) M7.view f7 = box1 i (View.read (Elt F) M2.view g2) (View.read (Elt F) M3.view f3) (View.read (Elt F) M4.view f4) l := by
          unfold box1; rw [dif_neg hc2]; exact hf7
        refine congr (congr (congrArg (k1_pay3 _ _ _ _ _ _) (View.readAt_full M5.view f5 _)) ?_) ?_
        · exact congrArg (denseNext _) (at11 M6 f6 hf6 _)
        · exact at11 M7 f7 hb _
      iexists _; isplitr; swap; (· iexact H10); ipureintro; rfl
    · sl_exec
      sl_step
      subst hf1 hf2 hf3 hf4 hf5
      isplitl [H1]
      · iexists _; isplitr; swap; (· iexact H1); ipureintro; rfl
      isplitl [H2]
      · iexists _; isplitr; swap; (· iexact H2); ipureintro; rfl
      isplitl [H3]
      · iexists _; isplitr; swap; (· iexact H3); ipureintro; rfl
      isplitl [H4]
      · iexists _; isplitr; swap; (· iexact H4); ipureintro; rfl
      isplitl [H5]
      · iexists _; isplitr; swap; (· iexact H5); ipureintro; rfl
      isplitl [H6]
      · iexists _; isplitr; swap; (· iexact H6); ipureintro;  exact dense_stored M6 f6 hf6 _ _ _ rfl
      isplitl [H7]
      · iexists _; isplitr; swap; (· iexact H7); ipureintro; unfold box1; rw [dif_neg hc2]; exact hf7
      isplitl [H8]
      · iexists _; isplitr; swap; (· iexact H8); ipureintro; unfold cor1; rw [if_neg hc3]; exact hf8
      isplitl [H9]
      · iexists _; isplitr; swap; (· iexact H9); ipureintro; unfold loss1; rw [if_neg hc3]; exact hf9
      iexists _; isplitr; swap; (· iexact H10); ipureintro
      exact xt_stored M10 f10 hf10 _ rfl

end Cert.Proof.Run

end
-- ==== Proof.TcRegion.lean ====
/-
  The TensorCore call as one region: what each grid point leaves, as a recursion over the four points, and the
  region's record.
-/
module

public import proofs.«01_k».proof.Proof.TcBody
public import proofs.«01_k».proof.Proof.Gen.KernelIdeal.Points
public import Idealize.ShloMosaic.Lib.Pipeline.ArrRel

@[expose] public section

set_option maxRecDepth 16384

noncomputable section

namespace Cert.Proof.Run

open Cert.KernelIdeal Cert.KernelIdeal.Gen

open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

variable [FloatOps F]

local notation "𝕄" => MT nD τ sig (HIx 1) (Elt F) ℕ UU ℕ

variable [∀ e, Nonempty (Elt F e)]

/-! ## What the points leave -/

section Vals

variable (V : (c : Dev nD) → (b : Ref sig .tc) → Buf (Elt F) ((c : Thread nD τ).loc b)) (c : Dev nD)

/-- The windows' blocks at a point. -/
def winX (t : Fin cfg1.N) : BX F := View.read (Elt F) ((cfg1.win 0).blk t).view (V c main_v0)
def winT (t : Fin cfg1.N) : BT F := View.read (Elt F) ((cfg1.win 1).blk t).view (V c main_arg3)
def winP (t : Fin cfg1.N) : BL F := View.read (Elt F) ((cfg1.win 2).blk t).view (V c main_v1)
def winL (t : Fin cfg1.N) : BL F := View.read (Elt F) ((cfg1.win 3).blk t).view (V c main_v2)
def winC (t : Fin cfg1.N) : BP F := View.read (Elt F) ((cfg1.win 4).blk t).view (V c main_v4)

/-- The running dense sum, the running box sum and the scratch before point `n`. -/
def dAt : ℕ → B1 F
  | 0 => fun _ => Scalar.ofBits .f32 0x00000000#32
  | n + 1 => if h : n < cfg1.N then dense1 (grid1.coords ⟨n, h⟩) (winX V c ⟨n, h⟩) (dAt n) else dAt n
def lAt : ℕ → B1 F
  | 0 => fun _ => Scalar.ofBits .f32 0x00000000#32
  | n + 1 => if h : n < cfg1.N then box1 (grid1.coords ⟨n, h⟩) (winT V c ⟨n, h⟩) (winP V c ⟨n, h⟩) (winL V c ⟨n, h⟩) (lAt n) else lAt n
def xtAt : ℕ → BS F
  | 0 => k1_pay34
  | n + 1 => if h : n < cfg1.N then xt1 (grid1.coords ⟨n, h⟩) (winX V c ⟨n, h⟩) (winT V c ⟨n, h⟩) (xtAt n) else xtAt n

theorem dAt_succ (t : Fin cfg1.N) : dAt V c (t.val + 1) = dense1 (grid1.coords t) (winX V c t) (dAt V c t.val) := by
  rw [dAt, dif_pos t.isLt]
theorem lAt_succ (t : Fin cfg1.N) : lAt V c (t.val + 1) = box1 (grid1.coords t) (winT V c t) (winP V c t) (winL V c t) (lAt V c t.val) := by
  rw [lAt, dif_pos t.isLt]
theorem xtAt_succ (t : Fin cfg1.N) : xtAt V c (t.val + 1) = xt1 (grid1.coords t) (winX V c t) (winT V c t) (xtAt V c t.val) := by
  rw [xtAt, dif_pos t.isLt]

/-- What the last output's buffer holds after a point that found `Y` in it. -/
def outAt (t : Fin cfg1.N) (Y : B1 F) : B1 F :=
  loss1 (grid1.coords t) (winT V c t) (xtAt V c (t.val + 1)) (winC V c t) (dAt V c (t.val + 1)) (lAt V c (t.val + 1)) Y

/-- The first point, and only it, resets. -/
theorem cond1_iff (t : Fin cfg1.N) : k1_cond1 (grid1.coords t) = 1#1 ↔ t.val = 0 := by
  revert t; decide +kernel

/-- The pairs this call's waits may have recorded: those of levels up to 8. -/
def recd : Set (SemLoc sig × HIx 1) := {p | (K (F := F)).lev ((T c : Thread nD τ), p.1) p.2 ≤ 8}

/-- The region's relational proof data. -/
def rdat : Pipeline.RDat τ (Elt F) (HIx 1) ℕ UU ℕ cfg1 c where
  A w := V c (Pipeline.arrRef spec1 w)
  after w t := match w with
    | 0 => fun Y X => X = Y
    | 1 => fun Y X => X = Y
    | 2 => fun Y X => X = Y
    | 3 => fun Y X => X = Y
    | 4 => fun Y X => X = Y
    | 5 => fun _ X => X = dAt V c (t.val + 1)
    | 6 => fun _ X => X = lAt V c (t.val + 1)
    | 7 => fun _ _ => True
    | 8 => fun Y X => X = outAt V c t Y
  Φ n := iprop(∃ X, ⌜n.val ≠ 0 → X = xtAt V c n.val⌝ ∗ own c (Memref.whole cc1_scratch0) X)
  q _ := fullShare
  owed _ := 0
  recorded _ := recd (F := F) c

/-! ## The body's obligation -/

/-- What the body finds in an input's buffer is the window's block. -/
theorem finds_0 (t : Fin cfg1.N) (Y) (h : (rdat V c).Finds 0 t Y) : Y = winX V c t := by
  obtain ⟨d, rfl⟩ := Pipeline.RDat.finds_in_eq_fetched (rdat V c) 0 rfl (fun _ _ _ => rfl) (fun _ _ _ h => h) t Y h
  rfl
theorem finds_1 (t : Fin cfg1.N) (Y) (h : (rdat V c).Finds 1 t Y) : Y = winT V c t := by
  obtain ⟨d, rfl⟩ := Pipeline.RDat.finds_in_eq_fetched (rdat V c) 1 rfl (fun _ _ _ => rfl) (fun _ _ _ h => h) t Y h
  rfl
theorem finds_2 (t : Fin cfg1.N) (Y) (h : (rdat V c).Finds 2 t Y) : Y = winP V c t := by
  obtain ⟨d, rfl⟩ := Pipeline.RDat.finds_in_eq_fetched (rdat V c) 2 rfl (fun _ _ _ => rfl) (fun _ _ _ h => h) t Y h
  rfl
theorem finds_3 (t : Fin cfg1.N) (Y) (h : (rdat V c).Finds 3 t Y) : Y = winL V c t := by
  obtain ⟨d, rfl⟩ := Pipeline.RDat.finds_in_eq_fetched (rdat V c) 3 rfl (fun _ _ _ => rfl) (fun _ _ _ h => h) t Y h
  rfl
theorem finds_4 (t : Fin cfg1.N) (Y) (h : (rdat V c).Finds 4 t Y) : Y = winC V c t := by
  obtain ⟨d, rfl⟩ := Pipeline.RDat.finds_in_eq_fetched (rdat V c) 4 rfl (fun _ _ _ => rfl) (fun _ _ _ h => h) t Y h
  rfl

/-- No output is flushed before the last point. -/
theorem not_flush5 (t : Fin cfg1.N) (ht : t.val ≠ 0) : (cfg1.win 5).flush ⟨t.val - 1, Nat.lt_of_le_of_lt (Nat.sub_le _ _) t.isLt⟩ = false := by
  revert t; decide +kernel
theorem not_flush6 (t : Fin cfg1.N) (ht : t.val ≠ 0) : (cfg1.win 6).flush ⟨t.val - 1, Nat.lt_of_le_of_lt (Nat.sub_le _ _) t.isLt⟩ = false := by
  revert t; decide +kernel

/-- After the first point the running sums' buffers hold what the point before left. -/
theorem finds_5 (t : Fin cfg1.N) (ht : t.val ≠ 0) (Y) (h : (rdat V c).Finds 5 t Y) : Y = dAt V c t.val := by
  rcases ((rdat V c).finds_of_pos ((cfg1.win 5).fetch_out rfl t) ht Y).mp h with h | ⟨Y', -, h⟩
  · exact absurd h (by rw [not_flush5 t ht]; decide)
  · have h' : Y = dAt V c (t.val - 1 + 1) := h
    rw [h', Nat.sub_add_cancel (Nat.pos_of_ne_zero ht)]
theorem finds_6 (t : Fin cfg1.N) (ht : t.val ≠ 0) (Y) (h : (rdat V c).Finds 6 t Y) : Y = lAt V c t.val := by
  rcases ((rdat V c).finds_of_pos ((cfg1.win 6).fetch_out rfl t) ht Y).mp h with h | ⟨Y', -, h⟩
  · exact absurd h (by rw [not_flush6 t ht]; decide)
  · have h' : Y = lAt V c (t.val - 1 + 1) := h
    rw [h', Nat.sub_add_cancel (Nat.pos_of_ne_zero ht)]

/-- At the first point what was there before does not matter. -/
theorem d0_irrel {i : grid1.Coords} (h : k1_cond1 i = 1#1) (d d' : B1 F) : d0 i d = d0 i d' := by
  unfold d0; rw [if_pos h, if_pos h]
theorem xt0_irrel {i : grid1.Coords} (h : k1_cond1 i = 1#1) (d d' : BS F) : xt0 i d = xt0 i d' := by
  unfold xt0; rw [if_pos h, if_pos h]

theorem dense_step (t : Fin cfg1.N) (Y : B1 F) (h : t.val ≠ 0 → Y = dAt V c t.val) :
    dense1 (grid1.coords t) (winX V c t) Y = dAt V c (t.val + 1) := by
  rw [dAt_succ]
  by_cases ht : t.val = 0
  · unfold dense1; rw [d0_irrel ((cond1_iff t).mpr ht) Y (dAt V c t.val)]
  · rw [h ht]
theorem box_step (t : Fin cfg1.N) (Y : B1 F) (h : t.val ≠ 0 → Y = lAt V c t.val) :
    box1 (grid1.coords t) (winT V c t) (winP V c t) (winL V c t) Y = lAt V c (t.val + 1) := by
  rw [lAt_succ]
  by_cases ht : t.val = 0
  · unfold box1; rw [d0_irrel ((cond1_iff t).mpr ht) Y (lAt V c t.val)]
  · rw [h ht]
theorem xt_step (t : Fin cfg1.N) (Y : BS F) (h : t.val ≠ 0 → Y = xtAt V c t.val) :
    xt1 (grid1.coords t) (winX V c t) (winT V c t) Y = xtAt V c (t.val + 1) := by
  rw [xtAt_succ]
  by_cases ht : t.val = 0
  · unfold xt1; rw [xt0_irrel ((cond1_iff t).mpr ht) Y (xtAt V c t.val)]
  · rw [h ht]

/-- The call's body, as the program's definitions give it at a point. -/
theorem defs₀_row1 (t : Fin cfg1.N) : defs₀ (F := F) .tc cfg1.body (cfg1.bodyArgs t (cfg1.slots t)) = bodyAt1 t := by
  unfold defs₀; rfl

/-- The body, at a point, over what it may find there. -/
theorem body_at (t : Fin cfg1.N) (Y : (w : Fin cfg1.W) → (cfg1.win w).block.Idx → Elt F (cfg1.win w).elt)
    (hY : ∀ w, (rdat V c).Finds w t (Y w)) (XT : BS F) (hXT : t.val ≠ 0 → XT = xtAt V c t.val) :
    iprop(own c (st1_0 t) (Y 0) ∗ own c (st1_1 t) (Y 1) ∗ own c (st1_2 t) (Y 2) ∗ own c (st1_3 t) (Y 3) ∗ own c (st1_4 t) (Y 4)
        ∗ own c (st1_5 t) (Y 5) ∗ own c (st1_6 t) (Y 6) ∗ own c (st1_7 t) (Y 7) ∗ own c (st1_8 t) (Y 8) ∗ own c (Memref.whole cc1_scratch0) XT)
      ⊢ wp frame (wpE (defs₀ (F := F)) 𝒱₀ (c : Thread nD τ) none) Set.univ (bodyAt1 t)
          (fun _ => iprop(own c (st1_0 t) (Y 0) ∗ own c (st1_1 t) (Y 1) ∗ own c (st1_2 t) (Y 2) ∗ own c (st1_3 t) (Y 3) ∗ own c (st1_4 t) (Y 4)
        ∗ own c (st1_5 t) (dAt V c (t.val + 1)) ∗ own c (st1_6 t) (lAt V c (t.val + 1)) ∗ (∃ X, own c (st1_7 t) X)
        ∗ own c (st1_8 t) (outAt V c t (Y 8)) ∗ own c (Memref.whole cc1_scratch0) (xtAt V c (t.val + 1)))) := by
  have e0 := finds_0 V c t _ (hY 0)
  have e1 := finds_1 V c t _ (hY 1)
  have e2 := finds_2 V c t _ (hY 2)
  have e3 := finds_3 V c t _ (hY 3)
  have e4 := finds_4 V c t _ (hY 4)
  have e5 := dense_step V c t (Y 5) fun ht => finds_5 V c t ht _ (hY 5)
  have e6 := box_step V c t (Y 6) fun ht => finds_6 V c t ht _ (hY 6)
  have eX := xt_step V c t XT hXT
  unfold bodyAt1 outAt
  rw [e0, e1, e2, e3, e4, ← e5, ← e6, ← eX]
  iintro H
  iapply wp_wand_r
  isplitl [H]
  · iapply body
    iexact H
  iintro %r ⟨H0, H1, H2, H3, H4, H5, H6, H7, H8, H9⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexact H8
  iexact H9

/-- The region's body obligation. -/
theorem body_obligation : Pipeline.RDat.BodyObligation (rdat V c) (defs₀ (F := F)) 𝒱₀ none Set.univ := fun t Y hY => by
  rw [bigSep_W1, bigSep_W1, defs₀_row1]
  rw [show (rdat V c).Φ t.castSucc = iprop(∃ X, ⌜t.val ≠ 0 → X = xtAt V c t.val⌝ ∗ own c (Memref.whole cc1_scratch0) X) from rfl,
    show (rdat V c).Φ t.succ = iprop(∃ X, ⌜t.val + 1 ≠ 0 → X = xtAt V c (t.val + 1)⌝ ∗ own c (Memref.whole cc1_scratch0) X) from rfl,
    show (rdat V c).owesAt none t.succ = (rdat V c).owesAt none t.castSucc from rfl]
  iintro ⟨⟨%XT, %hXT, HX⟩, HO, H0, H1, H2, H3, H4, H5, H6, H7, H8⟩
  have hb := body_at V c t Y hY XT hXT
  iapply wp_wand_r
  isplitl [HX H0 H1 H2 H3 H4 H5 H6 H7 H8]
  · iapply hb
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact HX
  iintro %r ⟨H0, H1, H2, H3, H4, H5, H6, ⟨%X7, H7⟩, H8, HX⟩
  isplitl [HX]; · iexists _; isplitr; · ipureintro; exact fun _ => rfl
                  iexact HX
  isplitl [HO]; · iexact HO
  isplitl [H0]; · iexists _; isplitr; · ipureintro; exact rfl
                  iexact H0
  isplitl [H1]; · iexists _; isplitr; · ipureintro; exact rfl
                  iexact H1
  isplitl [H2]; · iexists _; isplitr; · ipureintro; exact rfl
                  iexact H2
  isplitl [H3]; · iexists _; isplitr; · ipureintro; exact rfl
                  iexact H3
  isplitl [H4]; · iexists _; isplitr; · ipureintro; exact rfl
                  iexact H4
  isplitl [H5]; · iexists _; isplitr; · ipureintro; exact rfl
                  iexact H5
  isplitl [H6]; · iexists _; isplitr; · ipureintro; exact rfl
                  iexact H6
  isplitl [H7]; · iexists X7; isplitr; · ipureintro; exact trivial
                  iexact H7
  iexists _; isplitr; · ipureintro; exact rfl
  iexact H8

/-! ## What the region leaves -/

/-- The last point. -/
def tEnd : Fin cfg1.N := ⟨3, by decide⟩

/-- The loss, from the arrays the call finds. -/
def lossOf : Elt F .f32 :=
  lossVal (winT V c tEnd) (xtAt V c 4) (winC V c tEnd) (dAt V c 4 z11) (lAt V c 4 z11)

theorem whole8 : (cfg1.win 8).WholeAt tEnd := by decide +kernel
theorem cond3_end : k1_cond3 (grid1.coords tEnd) = 1#1 := by decide +kernel

/-- After the region the loss's buffer holds the loss. -/
theorem arr8 (G : Buf (Elt F) ((cfg1.win 8).arr.view.loc (c : Thread nD τ))) (hG : (rdat V c).ArrAt 8 cfg1.N G) :
    G = (fun _ => lossOf V c : Buf (Elt F) ((c : Thread nD τ).loc main_v5_3)) := by
  obtain ⟨X, ⟨Y, -, hX⟩, hj⟩ := hG.emb_eq_of_wholeAt whole8
  have hX' : X = outAt V c tEnd Y := hX
  funext j
  refine (hj j).trans ?_
  rw [hX']
  unfold outAt loss1
  rw [if_pos cond3_end]
  rfl

/-- What the region finds, and what it leaves of interest. -/
def regPre : sProp 𝕄 :=
  iprop(unscopedBufs c (V c) ∗ ∃ W, ⌜(K (F := F)).WBelow (T c : Thread nD τ) W 8⌝ ∗ owes (c : Thread nD τ) (0 : CellTallies nD τ sig (HIx 1)) W)
def regPost : sProp 𝕄 :=
  iprop(((c : Thread nD τ).loc main_arg0 ↦{fullShare} V c main_arg0) ∗ ((c : Thread nD τ).loc main_arg1 ↦{fullShare} V c main_arg1)
    ∗ ((c : Thread nD τ).loc main_arg2 ↦{fullShare} V c main_arg2) ∗ ((c : Thread nD τ).loc main_arg3 ↦{fullShare} V c main_arg3)
    ∗ ((c : Thread nD τ).loc main_v5_3 ↦{fullShare} (fun _ => lossOf V c : Buf (Elt F) ((c : Thread nD τ).loc main_v5_3)))
    ∗ ((c : Thread nD τ).loc main_v6 ↦{fullShare} V c main_v6)
    ∗ ∃ W, ⌜(K (F := F)).WBelow (T c : Thread nD τ) W 8⌝ ∗ owes (c : Thread nD τ) (0 : CellTallies nD τ sig (HIx 1)) W)

end Vals

section Reg

variable (V : (c : Dev nD) → (b : Ref sig .tc) → Buf (Elt F) ((c : Thread nD τ).loc b))

/-- The pipeline's tables: none. -/
abbrev adm : (p : Fin 1) → (pcfgs (F := F) p).Adm := fun p => (cfgs p).toPCfg_adm

/-- The one region's proof data, over the pinned configuration. -/
def rdats : (p : Fin 1) → (c : Dev nD) → Pipeline.RDat τ (Elt F) (HIx 1) ℕ UU ℕ (Pipeline.pin (pcfgs (F := F)) adm p) c
  | 0, c => rdat V c

theorem scratch_in (c : Dev nD) (f : Buf (Elt F) ((c : Thread nD τ).loc cc1_scratch0)) :
    (((c : Thread nD τ).loc cc1_scratch0) ↦{fullShare} f : sProp 𝕄) ⊢ iprop(∃ X, own c (Memref.whole cc1_scratch0) X) := by
  have e := owns_whole (Ix := HIx 1) (Name := ℕ) (U := UU) (Lvl := ℕ) (Val := Elt F) (c : Thread nD τ) cc1_scratch0 fullShare f
  iintro H
  iexists f
  unfold own
  iapply (Entails.of_eq e.symm)
  iexact H
theorem scratch_out (c : Dev nD) (X : BS F) :
    (own c (Memref.whole cc1_scratch0) X : sProp 𝕄) ⊢ iprop(∃ f : Buf (Elt F) ((c : Thread nD τ).loc cc1_scratch0), ((c : Thread nD τ).loc cc1_scratch0) ↦{fullShare} f) := by
  have e := owns_whole (Ix := HIx 1) (Name := ℕ) (U := UU) (Lvl := ℕ) (Val := Elt F) (c : Thread nD τ) cc1_scratch0 fullShare X
  unfold own
  iintro H
  iexists X
  iapply (Entails.of_eq e)
  iexact H

theorem scratch_rest (c : Dev nD) :
    (rdat V c).Φ (Fin.last cfg1.N) ⊢ (Pipeline.scopedRest (Ix := HIx 1) (Name := ℕ) (U := UU) (Lvl := ℕ) (Val := Elt F) spec1 c : sProp 𝕄) := by
  rw [scopedRest1_eq c]
  unfold rdat
  iintro ⟨%X, -, Hr⟩
  iapply (scratch_out c X); iexact Hr

/-- What the region's waits have recorded is of low level. -/
theorem recd_low (c : Dev nD) (W : Waits sig (HIx 1)) (hW : (↑W : Set (SemLoc sig × HIx 1)) ⊆ recd (F := F) c ∪ {p | p.2 = none}) :
    (K (F := F)).WBelow (T c : Thread nD τ) W 8 := by
  intro p hp
  rcases hW hp with h | h
  · exact h
  · have h' : p.2 = none := h
    rw [h', (K (F := F)).lev_none]
    exact Nat.zero_le _

theorem owes_out (c : Dev nD) :
    ((rdats V 0 c).owesAt none (Fin.last _) : sProp 𝕄)
      ⊢ iprop(∃ W, ⌜(K (F := F)).WBelow (T c : Thread nD τ) W 8⌝ ∗ owes (c : Thread nD τ) (0 : CellTallies nD τ sig (HIx 1)) W) := by
  unfold Pipeline.RDat.owesAt Pipeline.owesWithin
  iintro ⟨%W, %hW, HO⟩
  iexists W; isplitr
  · ipureintro
    refine recd_low c W fun p hp => (hW hp).imp (fun h => h) ?_
    rintro ⟨w, s, e⟩
    have h2 : p.2 = none := by rw [e]
    exact h2
  iexact HO

/-- What the region leaves, from its arrays at their final contents and the rest. -/
theorem reg_exit (c : Dev nD) :
    iprop((rdat V c).arraysAt cfg1.N ∗ Pipeline.unscopedRest (Ix := HIx 1) (Name := ℕ) (U := UU) (Lvl := ℕ) spec1 c (V c)
      ∗ ∃ W, ⌜(K (F := F)).WBelow (T c : Thread nD τ) W 8⌝ ∗ owes (c : Thread nD τ) (0 : CellTallies nD τ sig (HIx 1)) W) ⊢ (regPost V c : sProp 𝕄) := by
  have e := Pipeline.RDat.arraysAt_eq (pcfgs (F := F)) adm (rdats V) 0 c (launch1).arr_whole (fun w => ((rdats V 0 c).share_full fun _ => rfl) w) cfg1.N
  rw [show (rdat V c).arraysAt cfg1.N = (rdats V 0 c).arraysAt cfg1.N from rfl, e, unscopedRest1_eq]
  refine (sep_mono (Entails.of_eq (bigSep_W1 _)) .rfl).trans ?_
  unfold regPost
  iintro ⟨⟨-, ⟨%F1, %h1, H1⟩, -, -, -, -, -, -, ⟨%F8, %h8, H8⟩⟩, ⟨HA0, HA1, HA2, -, H6⟩, HO⟩
  have h1' : F1 = V c main_arg3 := by
    have := (rdats V 0 c).ArrAt_in 1 rfl cfg1.N
    rw [this] at h1; exact h1
  have h8' : F8 = (fun _ => lossOf V c : Buf (Elt F) ((c : Thread nD τ).loc main_v5_3)) := arr8 V c F8 h8
  subst h1' h8'
  isplitl [HA0]; · iexact HA0
  isplitl [HA1]; · iexact HA1
  isplitl [HA2]; · iexact HA2
  isplitl [H1]; · iexact H1
  isplitl [H8]; · iexact H8
  isplitl [H6]; · iexact H6
  iexact HO

/-- The region's record. -/
def reg : Pipeline.RDat.RegionSeg (pcfgs (F := F)) adm (rdats V) none defs₀ 𝒱₀ (K (F := F)).L (K (F := F)).lev 0 where
  win := (launch1).win.to₀
  block_pos := (launch1).block_pos
  stage_whole := (launch1).stage_whole
  K := PEmpty
  osem k := k.elim
  ho := Pipeline.OwnSemFacts.none _
  hbody c := body_obligation V c
  hwaits := Pipeline.RDat.hwaits_of_owed_zero _ _ _ _ _ _ 0 fun _ _ => rfl
  pre c := regPre V c
  post c := regPost V c
  X _ := BI.emp
  Y _ := BI.emp
  Z c := Pipeline.unscopedRest (Ix := HIx 1) (Name := ℕ) (U := UU) (Lvl := ℕ) spec1 c (V c)
  hentry c := by
    rw [Pipeline.ownSems0_none]
    have hsplit := Pipeline.RDat.arrays_of_unscopedBufs (p := 0) (pcfgs (F := F)) adm (rdats V) (launch1).win (launch1).arr_whole c
      ((rdats V 0 c).share_full fun _ => rfl) (V c) fun _ => rfl
    unfold regPre
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, %hW, HO⟩; iexists W; isplitr; · ipureintro; exact fun p hp => Or.inl (hW p hp)
      iexact HO
    isplitr; · iempintro
    iexact Hrest
  hin c := by
    rw [show (rdats V 0 c).Φ 0 = iprop(∃ X, ⌜(0 : ℕ) ≠ 0 → X = xtAt V c 0⌝ ∗ own c (Memref.whole cc1_scratch0) X) from rfl]
    refine (sep_mono .rfl (sep_mono .rfl (Entails.of_eq (scopedRest1_eq c)))).trans ?_
    iintro ⟨-, -, ⟨%f, Hr⟩⟩
    ihave Hr' := (scratch_in c f) $$ Hr
    icases Hr' with ⟨%X, Hr⟩
    iexists X; isplitr; · ipureintro; exact fun h => absurd rfl h
    iexact Hr
  hout c := by
    rw [Pipeline.ownSems0_none]
    refine (show _ ⊢ _ from scratch_rest V c).trans ?_
    iintro H
    isplitr; · iempintro
    isplitr; · iempintro
    iexact H
  hexit c := by
    iintro ⟨Ha, HO, -, Hrest⟩
    imodintro
    iapply (reg_exit V c)
    isplitl [Ha]; · iexact Ha
    isplitl [Hrest]; · iexact Hrest
    iapply (owes_out V c); iexact HO

end Reg

end Cert.Proof.Run

end
-- ==== Proof.Run.lean ====
/-
  The whole launch: the host's four layout operations, the SparseCore call, the TensorCore call, the final reshape —
  and what every run of it leaves.
-/
module

public import proofs.«01_k».proof.Proof.ScCall
public import proofs.«01_k».proof.Proof.TcRegion

@[expose] public section

set_option maxRecDepth 16384

noncomputable section

namespace Cert.Proof.Run

open Cert.KernelIdeal Cert.KernelIdeal.Gen

open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

variable [FloatOps F]

local notation "𝕄" => MT nD τ sig (HIx 1) (Elt F) ℕ UU ℕ

open StableHlo (held held_split held_sdiff_result wp_hlo_within)

/-! ## The TensorCore call inside @main -/

theorem phinj : Function.Injective (Pipeline.cellOf (nD := nD) (τ := τ) (Pipeline.pin (pcfgs (F := F)) adm)) := cellOf_inj

section Region

variable [∀ e, Nonempty (Elt F e)]
variable (V : (c : Dev nD) → (b : Ref sig .tc) → Buf (Elt F) ((c : Thread nD τ).loc b))

/-- What the launch deals a core for the region's staging cells. -/
abbrev stageGhost (d : Dev nD) : sProp 𝕄 :=
  iprop(Pipeline.cellsGhost (Pipeline.pin (pcfgs (F := F)) adm) EP 0 d ∗ Pipeline.toksInit (Pipeline.pin (pcfgs (F := F)) adm) EP 0 d)

theorem region_wp (d : Dev nD) :
    iprop(boundary (d : Thread nD τ) ∗ regPre V d ∗ levAts (K (F := F)).L (K (F := F)).lev ∗ stageGhost (F := F) d)
      ⊢ wp frame (wpE ((K (F := F)).defs (D (F := F))) 𝒱 (SparseCore.T d) none) Set.univ
          (Prog.lift (.customCall (SparseCore.inner (Pipeline.entry 0)) ()))
          (fun _ => iprop(boundary (d : Thread nD τ) ∗ regPost V d)) := by
  have hl := (K (F := F)).wp_liftProg (N := 1) (D (F := F)) 𝒱 (SparseCore.T d) Set.univ none
    (Prog.op (.customCall (Pipeline.entry 0) ()) Prog.ret) (fun _ => iprop(boundary (d : Thread nD τ) ∗ regPost V d))
  refine BIBase.Entails.trans ?_ hl
  have h := (Pipeline.RDat.RegionSeg.wp (pcfgs (F := F)) adm (rdats V) none phinj EP defs₀ 𝒱₀ (K (F := F)).L (K (F := F)).lev (reg V) d none
    (fun _ h => nomatch h) Prog.ret (fun _ => iprop(boundary (d : Thread nD τ) ∗ regPost V d)))
  rw [show (reg V).pre d = regPre V d from rfl, show (reg V).post d = regPost V d from rfl] at h
  refine BIBase.Entails.trans ?_ h
  iintro ⟨Hb, Hp, Hl, Hc, Ht⟩
  isplitr
  · iintro ⟨Hb, Hp⟩
    rw [wp_ret]; imodintro
    isplitl [Hb]; · iexact Hb
    iexact Hp
  isplitl [Hb]; · iexact Hb
  isplitl [Hp]; · iexact Hp
  isplitl [Hl]; · iexact Hl
  isplitl [Hc]; · iexact Hc
  iexact Ht

end Region

/-! ## The launch element -/

def u₀ : UU := (initOf (K (F := F)).hsCells (K (F := F)).hsToks,
  (initOf (Pipeline.cells (Pipeline.pin (pcfgs (F := F)) adm) phinj) (Pipeline.launchToks (Pipeline.pin (pcfgs (F := F)) adm) phinj), 1))

section Launch

variable (Tv : (d : Dev nD) → Buf (Elt F) (tLoc d)) (Gv : (d : Dev nD) → Buf (Elt F) (cLoc d))

omit [FloatOps F] in
theorem one_pipe (Φ : Fin 1 → Dev nD → sProp 𝕄) :
    (bigSep Finset.univ fun d : Dev nD => bigSep Finset.univ fun p : Fin 1 => Φ p d) = bigSep Finset.univ fun d : Dev nD => Φ 0 d :=
  bigSep_congr fun _ _ => bigSep_univ_of_subsingleton (0 : Fin 1)

omit [FloatOps F] in
theorem emp_all {I : Type} (s : Finset I) : (bigSep s fun _ => iprop(emp)) = (iprop(emp) : sProp 𝕄) := bigSep_emp_const s

theorem ep_own (x : UP) : (BI.own (((Emb.inl : Emb UP (UP × Counters)).trans (embR : Emb (UP × Counters) 𝕄)) x) : sProp 𝕄) ⊢ BI.own ((EP : Emb UP 𝕄) x) :=
  BIBase.Entails.rfl

theorem hu₀ : (ownU (u₀ (F := F)) : sProp 𝕄)
    ⊢ |={Set.univ}=> iprop(BI.own (EH (initOf (K (F := F)).hsCells (K (F := F)).hsToks)) ∗ (bigSep Finset.univ fun d : Dev nD => stageGhost (F := F) d)
        ∗ bigSep Finset.univ fun thr : Thread nD τ => bigSep Finset.univ fun q : Fin 1 => (P Tv Gv).x q thr) := by
  unfold u₀
  iintro Hu
  ihave H := (ownU_pair (initOf (K (F := F)).hsCells (K (F := F)).hsToks)
    ((initOf (Pipeline.cells (Pipeline.pin (pcfgs (F := F)) adm) phinj) (Pipeline.launchToks (Pipeline.pin (pcfgs (F := F)) adm) phinj), 1) : UP × Counters)) $$ Hu
  icases H with ⟨HH, HR⟩
  ihave H := (own_pair_emb (embR : Emb (UP × Counters) 𝕄)
    (initOf (Pipeline.cells (Pipeline.pin (pcfgs (F := F)) adm) phinj) (Pipeline.launchToks (Pipeline.pin (pcfgs (F := F)) adm) phinj) : UP) (1 : Counters)) $$ HR
  icases H with ⟨HP, -⟩
  ihave HP := (ep_own _) $$ HP
  imod (Pipeline.fund_ghost (Pipeline.pin (pcfgs (F := F)) adm) (EP : Emb UP 𝕄) phinj) $$ HP with ⟨HC, HT⟩
  imodintro
  isplitl [HH]; · iexact HH
  isplitl [HC HT]
  · rw [bigSep_sep']
    isplitl [HC]
    · iapply (Entails.of_eq (one_pipe fun p d => Pipeline.cellsGhost (Pipeline.pin (pcfgs (F := F)) adm) EP p d))
      iexact HC
    iapply (Entails.of_eq (one_pipe fun p d => Pipeline.toksInit (Pipeline.pin (pcfgs (F := F)) adm) EP p d))
    iexact HT
  rw [show (bigSep Finset.univ fun thr : Thread nD τ => bigSep Finset.univ fun q : Fin 1 => (P (F := F) Tv Gv).x q thr) = bigSep Finset.univ fun _ => iprop(emp) from
    bigSep_congr fun _ _ => bigSep_univ_of_subsingleton (0 : Fin 1), emp_all]
  iempintro

end Launch

/-! ## @main on the TensorCore -/

section Main

variable (m : (ℓ : Loc nD τ sig) → Buf (Elt F) ℓ) (ρ : Dev nD → PrngReg)

abbrev ref (b : Ref sig .tc) : DevRef τ sig := Proc.devRef .tc b

/-- The host's operations. -/
abbrev op0 : HloOp τ sig (Elt F) := StableHlo.unary main_arg2 main_v0 ((transpose S20x16x20000 [2, 0, 1] · transposes_S16x20000x20_S20x16x20000_2_0_1) : (⟨S16x20000x20, .f32⟩ : BufTy).Contents (Elt F) → (⟨S20x16x20000, .f32⟩ : BufTy).Contents (Elt F))
abbrev op1 : HloOp τ sig (Elt F) := StableHlo.unary main_arg0 main_v1 ((transpose S16x4x20000 [0, 2, 1] · transposes_S16x20000x4_S16x4x20000_0_2_1) : (⟨S16x20000x4, .f32⟩ : BufTy).Contents (Elt F) → (⟨S16x4x20000, .f32⟩ : BufTy).Contents (Elt F))
abbrev op2 : HloOp τ sig (Elt F) := StableHlo.unary main_arg1 main_v2 ((transpose S16x4x20000 [0, 2, 1] · transposes_S16x20000x4_S16x4x20000_0_2_1) : (⟨S16x20000x4, .f32⟩ : BufTy).Contents (Elt F) → (⟨S16x4x20000, .f32⟩ : BufTy).Contents (Elt F))
abbrev op3 : HloOp τ sig (Elt F) := StableHlo.reshape main_arg3 main_v3 (rfl : (.i32 : EltTy) = .i32) shapeCasts_S16x20000_S320000
abbrev op4 : HloOp τ sig (Elt F) := StableHlo.reshape main_v5_3 main_v6 (rfl : (.f32 : EltTy) = .f32) shapeCasts_S1x1_S_

/-- The arrays at launch, before the SparseCore call, and after it. -/
def V0 (d : Dev nD) : Valuation τ sig (Elt F) := fun b => m (d, b)
def V4 (d : Dev nD) : Valuation τ sig (Elt F) := (op3 (F := F)).result ((op2 (F := F)).result ((op1 (F := F)).result ((op0 (F := F)).result (V0 m d))))
def V5 (d : Dev nD) : Valuation τ sig (Elt F) := Function.update (V4 m d) (ref main_v4) (parts (V4 m d (ref main_v3)))

/-- What the SparseCore call takes. -/
abbrev Tm (d : Dev nD) : Buf (Elt F) (tLoc d) := V4 m d (ref main_v3)
abbrev Gm (d : Dev nD) : Buf (Elt F) (cLoc d) := V4 m d (ref main_v4)
/-- What the TensorCore call finds. -/
abbrev Vr (c : Dev nD) (b : Ref sig .tc) : Buf (Elt F) ((c : Thread nD τ).loc b) := V5 m c (ref b)

/-- The two arrays the SparseCore call takes, and the rest. -/
abbrev restRefs : Finset (DevRef τ sig) := Pipeline.ucRefs τ sig \ {ref main_v3, ref main_v4}

theorem held_v34 (d : Dev nD) (W : Valuation τ sig (Elt F)) :
    (held (SparseCore.T d) (Pipeline.ucRefs τ sig) W : sProp 𝕄)
      = iprop((tLoc d ↦{fullShare} W (ref main_v3)) ∗ (cLoc d ↦{fullShare} W (ref main_v4)) ∗ held (SparseCore.T d) restRefs W) := by
  unfold held
  rw [show Pipeline.ucRefs τ sig = insert (ref main_v3) (insert (ref main_v4) restRefs) by decide,
    SparseCore.bigSep_insert' (by decide), SparseCore.bigSep_insert' (by decide)]

theorem held_rest (d : Dev nD) : (held (SparseCore.T d) restRefs (V4 m d) : sProp 𝕄) = held (SparseCore.T d) restRefs (V5 m d) := by
  unfold held
  refine bigSep_congr fun b hb => ?_
  rw [show V5 m d b = V4 m d b from Function.update_of_ne (fun h => by subst h; exact absurd hb (by decide)) _ _]

theorem V5_v3 (d : Dev nD) : V5 m d (ref main_v3) = V4 m d (ref main_v3) := Function.update_of_ne (by decide) _ _
theorem V5_v4 (d : Dev nD) : V5 m d (ref main_v4) = parts (V4 m d (ref main_v3)) := Function.update_self _ _ _

/-- The arguments are as launched. -/
theorem V5_arg0 (d : Dev nD) : V5 m d (ref main_arg0) = m ((d : Thread nD τ).loc main_arg0) := by
  rw [show V5 m d (ref main_arg0) = V4 m d (ref main_arg0) from Function.update_of_ne (by decide) _ _]
  unfold V4
  rw [StableHlo.reshape_result_ne, StableHlo.unary_result_ne, StableHlo.unary_result_ne, StableHlo.unary_result_ne] <;> first | rfl | decide
theorem V5_arg1 (d : Dev nD) : V5 m d (ref main_arg1) = m ((d : Thread nD τ).loc main_arg1) := by
  rw [show V5 m d (ref main_arg1) = V4 m d (ref main_arg1) from Function.update_of_ne (by decide) _ _]
  unfold V4
  rw [StableHlo.reshape_result_ne, StableHlo.unary_result_ne, StableHlo.unary_result_ne, StableHlo.unary_result_ne] <;> first | rfl | decide
theorem V5_arg2 (d : Dev nD) : V5 m d (ref main_arg2) = m ((d : Thread nD τ).loc main_arg2) := by
  rw [show V5 m d (ref main_arg2) = V4 m d (ref main_arg2) from Function.update_of_ne (by decide) _ _]
  unfold V4
  rw [StableHlo.reshape_result_ne, StableHlo.unary_result_ne, StableHlo.unary_result_ne, StableHlo.unary_result_ne] <;> first | rfl | decide
theorem V5_arg3 (d : Dev nD) : V5 m d (ref main_arg3) = m ((d : Thread nD τ).loc main_arg3) := by
  rw [show V5 m d (ref main_arg3) = V4 m d (ref main_arg3) from Function.update_of_ne (by decide) _ _]
  unfold V4
  rw [StableHlo.reshape_result_ne, StableHlo.unary_result_ne, StableHlo.unary_result_ne, StableHlo.unary_result_ne] <;> first | rfl | decide

variable [∀ e, Nonempty (Elt F e)]

/-- The loss the program leaves. -/
def LOSS (d : Dev nD) : Elt F .f32 := lossOf (Vr m) d

/-- The last two arrays before the final reshape. -/
def V6 (d : Dev nD) : Valuation τ sig (Elt F) := Function.update (V5 m d) (ref main_v5_3) (fun _ => LOSS m d : Buf (Elt F) ((d : Thread nD τ).loc main_v5_3))

abbrev lastRefs : Finset (DevRef τ sig) := {ref main_v5_3, ref main_v6}

theorem held_last (d : Dev nD) (W : Valuation τ sig (Elt F)) :
    (held (SparseCore.T d) lastRefs W : sProp 𝕄)
      = iprop(((d : Thread nD τ).loc main_v5_3 ↦{fullShare} W (ref main_v5_3)) ∗ ((d : Thread nD τ).loc main_v6 ↦{fullShare} W (ref main_v6))) := by
  unfold held
  rw [SparseCore.bigSep_insert' (by decide), bigSep_singleton]

theorem V6_v5 (d : Dev nD) : V6 m d (ref main_v5_3) = (fun _ => LOSS m d : Buf (Elt F) ((d : Thread nD τ).loc main_v5_3)) := Function.update_self _ _ _
theorem V6_v6 (d : Dev nD) : V6 m d (ref main_v6) = V5 m d (ref main_v6) := Function.update_of_ne (by decide) _ _

/-- The result's buffer after the final reshape. -/
theorem V7_v6 (d : Dev nD) : (op4 (F := F)).result (V6 m d) (ref main_v6) = (fun _ => LOSS m d : Buf (Elt F) ((d : Thread nD τ).loc main_v6)) := by
  rw [StableHlo.reshape_result, V6_v5]
  rfl

abbrev FIN (d : Dev nD) : sProp 𝕄 :=
  iprop(((d : Thread nD τ).loc main_arg0 ↦{fullShare} m ((d : Thread nD τ).loc main_arg0)) ∗ ((d : Thread nD τ).loc main_arg1 ↦{fullShare} m ((d : Thread nD τ).loc main_arg1))
    ∗ ((d : Thread nD τ).loc main_arg2 ↦{fullShare} m ((d : Thread nD τ).loc main_arg2)) ∗ ((d : Thread nD τ).loc main_arg3 ↦{fullShare} m ((d : Thread nD τ).loc main_arg3))
    ∗ ((d : Thread nD τ).loc main_v6 ↦{fullShare} (fun _ => LOSS m d : Buf (Elt F) ((d : Thread nD τ).loc main_v6))))

/-- The TensorCore's record after the one SparseCore call, beside what it owes, which is nothing. -/
def tcMore (d : Dev nD) : sProp 𝕄 :=
  iprop(atPos EH ((K (F := F)).doneCell d) 1 ∅ 0 ∗ reached EH ((K (F := F)).doneCell d) 1
    ∗ (bigSep Finset.univ fun c : Fin τ.nSC => reached EH ((K (F := F)).startCell d c) ((K (F := F)).sRank c 1))
    ∗ bigSep (SparseCore.Cfg.callsFrom (Q := 1) 1) fun q => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some (SparseCore.Cfg.Blocks.last (Q := 1) (N := 1) q)) 1)))

theorem tcSt_one (d : Dev nD) : ((K (F := F)).tcSt EH d 1 : sProp 𝕄)
    = iprop((∃ W, ⌜(K (F := F)).WBelow (T d : Thread nD τ) W 8⌝ ∗ owes (d : Thread nD τ) (0 : CellTallies nD τ sig (HIx 1)) W) ∗ tcMore (F := F) d) := by
  unfold SparseCore.Cfg.tcSt tcMore
  rw [(K (F := F)).Otc_end d le_rfl]
  rfl

theorem hOp0 : (op0 (F := F)).bufs ⊆ Pipeline.ucRefs τ sig := show ({ref main_arg2, ref main_v0} : Finset (DevRef τ sig)) ⊆ Pipeline.ucRefs τ sig by decide
theorem hOp1 : (op1 (F := F)).bufs ⊆ Pipeline.ucRefs τ sig := show ({ref main_arg0, ref main_v1} : Finset (DevRef τ sig)) ⊆ Pipeline.ucRefs τ sig by decide
theorem hOp2 : (op2 (F := F)).bufs ⊆ Pipeline.ucRefs τ sig := show ({ref main_arg1, ref main_v2} : Finset (DevRef τ sig)) ⊆ Pipeline.ucRefs τ sig by decide
theorem hOp3 : (op3 (F := F)).bufs ⊆ Pipeline.ucRefs τ sig := show ({ref main_arg3, ref main_v3} : Finset (DevRef τ sig)) ⊆ Pipeline.ucRefs τ sig by decide
theorem hOp4 : (op4 (F := F)).bufs ⊆ lastRefs := show ({ref main_v5_3, ref main_v6} : Finset (DevRef τ sig)) ⊆ lastRefs by decide

theorem hmain (κ : GSem nD τ sig → ℕ) (d : Dev nD) :
    iprop((K (F := F)).ctx EH (P (Tm m) (Gm m)) κ ∗ (K (F := F)).tcSt EH d 0 ∗ (K (F := F)).tcRes m ρ d ∗ stageGhost (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => m ((SparseCore.T d).loc b)) : sProp 𝕄) = held (SparseCore.T d) (Pipeline.ucRefs τ sig) (V0 m d) from
    Pipeline.unscopedBufs_held d (V0 m d)]
  simp only [main, wp_bind, wp_pure]
  iintro ⟨#Hctx, Hst, ⟨Hb, Hheld, Hts, -⟩, Hg⟩
  -- the four layout operations
  iapply (wp_hlo_within 𝒱 (SparseCore.T d) none Set.univ (op := op0) (S := Pipeline.ucRefs τ sig) hOp0 (V := V0 m d)) $$ [Hb Hheld]
  · isplitl [Hb]; · iexact Hb
    iexact Hheld
  iintro ⟨Hb, Hheld⟩
  rw [wp_ret]; imodintro
  iapply (wp_hlo_within 𝒱 (SparseCore.T d) none Set.univ (op := op1) (S := Pipeline.ucRefs τ sig) hOp1) $$ [Hb Hheld]
  · isplitl [Hb]; · iexact Hb
    iexact Hheld
  iintro ⟨Hb, Hheld⟩
  rw [wp_ret]; imodintro
  iapply (wp_hlo_within 𝒱 (SparseCore.T d) none Set.univ (op := op2) (S := Pipeline.ucRefs τ sig) hOp2) $$ [Hb Hheld]
  · isplitl [Hb]; · iexact Hb
    iexact Hheld
  iintro ⟨Hb, Hheld⟩
  rw [wp_ret]; imodintro
  iapply (wp_hlo_within 𝒱 (SparseCore.T d) none Set.univ (op := op3) (S := Pipeline.ucRefs τ sig) hOp3) $$ [Hb Hheld]
  · isplitl [Hb]; · iexact Hb
    iexact Hheld
  iintro ⟨Hb, Hheld⟩
  rw [wp_ret]; imodintro
  rw [show (op3 (F := F)).result ((op2 (F := F)).result ((op1 (F := F)).result ((op0 (F := F)).result (V0 m d)))) = V4 m d from rfl]
  ihave Hh := (Entails.of_eq (held_v34 (F := F) d (V4 m d))) $$ Hheld
  icases Hh with ⟨H3, H4, Hrest⟩
  -- the SparseCore call
  iapply ((K (F := F)).wp_run (D (F := F)) 𝒱 (EH := EH) (P := P (Tm m) (Gm m)) κ d 0) $$ [Hst H3 H4 Hb Hrest Hts Hg]
  isplitr; · iexact Hctx
  isplitl [Hst]; · iexact Hst
  isplitl [H3 H4]
  · rw [st0_eq]
    isplitl [H3]; · iexact H3
    iexact H4
  iintro ⟨Hst, Hdn⟩
  ihave Hdn' := (Entails.of_eq (dn0_eq (Tm m) (Gm m) d)) $$ Hdn
  icases Hdn' with ⟨H3, H4⟩
  ihave Hrest := (Entails.of_eq (held_rest (F := F) m d)) $$ Hrest
  have e3 : (tLoc d ↦{fullShare} Tm m d : sProp 𝕄) = (tLoc d ↦{fullShare} V5 m d (ref main_v3)) := by rw [V5_v3]
  have e4 : (cLoc d ↦{fullShare} parts (Tm m d) : sProp 𝕄) = (cLoc d ↦{fullShare} V5 m d (ref main_v4)) := by rw [V5_v4]
  ihave H3 := (Entails.of_eq e3) $$ H3
  ihave H4 := (Entails.of_eq e4) $$ H4
  -- the TensorCore call
  ihave Hst := (show ((K (F := F)).tcSt EH d ((0 : Fin 1).val + 1) : sProp 𝕄) ⊢ _ from Entails.of_eq (tcSt_one (F := F) d)) $$ Hst
  icases Hst with ⟨HO, Hmore⟩
  iapply wp_wand_r
  isplitl [Hb H3 H4 Hrest HO Hg]
  · iapply (region_wp (Vr m) d)
    isplitl [Hb]; · iexact Hb
    isplitl [H3 H4 Hrest HO]
    · unfold regPre
      isplitl [H3 H4 Hrest]
      · iapply (Entails.of_eq (Pipeline.unscopedBufs_held (Ix := HIx 1) (Name := ℕ) (U := UU) (Lvl := ℕ) d (V5 m d)).symm)
        iapply (Entails.of_eq (held_v34 (F := F) d (V5 m d)).symm)
        isplitl [H3]; · iexact H3
        isplitl [H4]; · iexact H4
        iexact Hrest
      iexact HO
    isplitr [Hg]
    · iapply ((K (F := F)).ctx_levAts (EH := EH) (P := P (Tm m) (Gm m)) κ); iexact Hctx
    iexact Hg
  iintro %r ⟨Hb, Hpost⟩
  unfold regPost
  icases Hpost with ⟨HA0, HA1, HA2, HA3, H5, H6, HO⟩
  -- the final reshape
  iapply (wp_hlo_within 𝒱 (SparseCore.T d) none Set.univ (op := op4) (S := lastRefs) hOp4 (V := V6 m d)) $$ [Hb H5 H6]
  · isplitl [Hb]; · iexact Hb
    rw [held_last, V6_v5, V6_v6]
    isplitl [H5]; · iexact H5
    iexact H6
  iintro ⟨Hb, Hheld⟩
  ihave Hh := (Entails.of_eq (held_last (F := F) d _)) $$ Hheld
  icases Hh with ⟨-, H6⟩
  rw [wp_ret]; imodintro; imodintro
  isplitl [HO Hmore]
  · iapply (Entails.of_eq (tcSt_one (F := F) d).symm)
    isplitl [HO]; · iexact HO
    iexact Hmore
  isplitr [Hb Hts]
  · rw [V7_v6, show Vr m d main_arg0 = _ from V5_arg0 m d, show Vr m d main_arg1 = _ from V5_arg1 m d,
      show Vr m d main_arg2 = _ from V5_arg2 m d, show Vr m d main_arg3 = _ from V5_arg3 m d]
    isplitl [HA0]; · iexact HA0
    isplitl [HA1]; · iexact HA1
    isplitl [HA2]; · iexact HA2
    isplitl [HA3]; · iexact HA3
    iexact H6
  isplitl [Hb] <;> iassumption

/-- What the last state holds, on one device. -/
def fq (d : Dev nD) (s' : Phys nD τ sig (Elt F)) : Prop :=
  (s'.mem.mem ((d : Thread nD τ).loc main_arg0) = m ((d : Thread nD τ).loc main_arg0)
    ∧ s'.mem.mem ((d : Thread nD τ).loc main_arg1) = m ((d : Thread nD τ).loc main_arg1)
    ∧ s'.mem.mem ((d : Thread nD τ).loc main_arg2) = m ((d : Thread nD τ).loc main_arg2)
    ∧ s'.mem.mem ((d : Thread nD τ).loc main_arg3) = m ((d : Thread nD τ).loc main_arg3))
    ∧ s'.mem.mem ((d : Thread nD τ).loc main_v6) = fun _ => LOSS m d

/-- A whole buffer held at a value is read there. -/
theorem reads (s' : Phys nD τ sig (Elt F)) (ℓ : Loc nD τ sig) (f : Buf (Elt F) ℓ) :
    iprop((ℓ ↦{fullShare} f) ∗ SI s') ⊢ (iprop(⌜s'.mem.mem ℓ = f⌝ ∗ SI s') : sProp 𝕄) := by
  iintro ⟨Hx, HSI⟩
  ihave H := (persistent_entails_right (SI_pointsTo_agree (st := s') (ℓ := ℓ) (I := Finset.univ) (q := fullShare) (f := f))) $$ [HSI Hx]
  · isplitl [HSI] <;> iassumption
  icases H with ⟨%hx, HSI, -⟩
  isplitr [HSI]
  · ipureintro; exact funext fun i => hx i (Finset.mem_univ i)
  iexact HSI

theorem hfin (d : Dev nD) (s' : Phys nD τ sig (Elt F)) : iprop(FIN m d ∗ SI s') ⊢ (⌜fq m d s'⌝ : sProp 𝕄) := by
  unfold FIN
  iintro ⟨⟨H0, H1, H2, H3, H6⟩, HSI⟩
  ihave H := (reads s' _ _) $$ [HSI H0]
  · isplitl [H0] <;> iassumption
  icases H with ⟨%h0, HSI⟩
  ihave H := (reads s' _ _) $$ [HSI H1]
  · isplitl [H1] <;> iassumption
  icases H with ⟨%h1, HSI⟩
  ihave H := (reads s' _ _) $$ [HSI H2]
  · isplitl [H2] <;> iassumption
  icases H with ⟨%h2, HSI⟩
  ihave H := (reads s' _ _) $$ [HSI H3]
  · isplitl [H3] <;> iassumption
  icases H with ⟨%h3, HSI⟩
  ihave H := (reads s' _ _) $$ [HSI H6]
  · isplitl [H6] <;> iassumption
  icases H with ⟨%h6, -⟩
  ipureintro
  exact ⟨⟨h0, h1, h2, h3⟩, h6⟩

/-- The arguments unchanged, the result the loss, every semaphore back at zero. -/
def QC : PUnit × MemSt nD τ sig (Elt F) → Prop := fun r =>
  (∀ d : Dev nD, (r.2.mem ((d : Thread nD τ).loc main_arg0) = m ((d : Thread nD τ).loc main_arg0)
    ∧ r.2.mem ((d : Thread nD τ).loc main_arg1) = m ((d : Thread nD τ).loc main_arg1)
    ∧ r.2.mem ((d : Thread nD τ).loc main_arg2) = m ((d : Thread nD τ).loc main_arg2)
    ∧ r.2.mem ((d : Thread nD τ).loc main_arg3) = m ((d : Thread nD τ).loc main_arg3))
    ∧ r.2.mem ((d : Thread nD τ).loc main_v6) = fun _ => LOSS m d) ∧ r.2.sem = fun _ => 0

theorem run_main : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (Tm m) (Gm m)) (A := ∅) facts v₀
    (fun q hq => match q with | 0 => nomatch hq)
    (fun q _ => match q with | 0 => tileObl (Tm m) (Gm m) facts)
    (fun q _ => match q with | 0 => SparseCore.Cfg.VecSplit.of_plain (vecSplit (Tm m) (Gm m)))
    m ρ main (fun d => stageGhost (F := F) d) (FIN m) (u₀ (F := F)) (sep_elim_left.trans (hu₀ (Tm m) (Gm m))) (hmain m ρ) (fq m) (hfin m)
    (QC m) (fun _ h hz => ⟨h, hz⟩)

end Main

end Cert.Proof.Run

end
-- ==== Proof.Terms.lean ====
/-
  What the TensorCore call's vectors hold at each position, over the extended reals: the dense term of one logit, the
  logit a target picks, the correction of a picked logit, and how one point's loads are windows of its block.
-/
module

public import proofs.«01_k».proof.Proof.TcDefs
public import Idealize.ShloMosaic.Lib.Pointwise

@[expose] public section

set_option maxRecDepth 16384

noncomputable section

namespace Cert.Proof.Run

open Cert.KernelIdeal Cert.KernelIdeal.Gen

open Idealize.ShloMosaic Idealize.SL.Sem

/-! ## The scalar terms -/

/-- The constants: a half, three quarters, a quarter. -/
abbrev kHalf : EReal := Ideal.ofBits .f32 1056964608#32
abbrev kThree : EReal := Ideal.ofBits .f32 1061158912#32
abbrev kFour : EReal := Ideal.ofBits .f32 1048576000#32

/-- The logistic function of `|x|`, through the hyperbolic tangent of its half. -/
def sgE (x : EReal) : EReal := kHalf + kHalf * Ideal.tanh (kHalf * FloatOps.absf (F := Ideal) (φ := .f32) x)

/-- The term of a logit `x` whose class is not the target. -/
def f0E (x : EReal) : EReal :=
  ((if 0 ≤ x then sgE x else 1 - sgE x) * if 0 ≤ x then sgE x else 1 - sgE x) * (max x 0 + (0 - Ideal.log (sgE x)))

/-- What the term of the target's class adds to that. -/
def corE (x : EReal) : EReal :=
  ((kFour * if 0 ≤ x then 1 - sgE x else sgE x) * if 0 ≤ x then 1 - sgE x else sgE x) * (max (0 - x) 0 + (0 - Ideal.log (sgE x)))
    - ((kThree * if 0 ≤ x then sgE x else 1 - sgE x) * if 0 ≤ x then sgE x else 1 - sgE x) * (max x 0 + (0 - Ideal.log (sgE x)))

/-- The value `v` where the target `t` is `c`, else nothing. -/
def pk (c t : BitVec 32) (v : EReal) : EReal := Scalar.select (IntOp.cmpi .eq t c) v 0

/-- The value `v` where the target `t` is positive, else nothing. -/
def pos (t : BitVec 32) (v : EReal) : EReal := Scalar.select (IntOp.cmpi .sgt t 0#32) v 0

/-- The class number plus one of row `j` at point `i`. -/
def cls1 (i : grid1.Coords) (j : BitVec 32) : BitVec 32 := Scalar.addi (Scalar.addi (Scalar.muli (a0 i) 5#32) j) 1#32

/-! ## The windows the loads read -/

theorem trips1 : k1_t1_loop.trips = 31 := by decide +kernel
theorem trips2 : k1_t2_loop.trips = 31 := by decide +kernel

/-- Column `l` of trip `k`, and of the tail. -/
def col (k : ℕ) (hk : k < 31) (l : Fin 640) : Fin 20000 := ⟨k * 640 + l.val, by have := l.isLt; omega⟩
def colT (l : Fin 160) : Fin 20000 := ⟨19840 + l.val, by have := l.isLt; omega⟩

theorem lt1 (k : Fin k1_t1_loop.trips) : k.val < 31 := lt_of_lt_of_eq k.isLt trips1
theorem lt2 (k : Fin k1_t2_loop.trips) : k.val < 31 := lt_of_lt_of_eq k.isLt trips2

theorem off1_eq (k : Fin k1_t1_loop.trips) : k1_off1 k = ![0, k.val * 640] := by
  have : ∀ k : Fin k1_t1_loop.trips, k1_off1 k = ![0, k.val * 640] := by decide +kernel
  exact this k
theorem off2_eq (k : Fin k1_t1_loop.trips) : k1_off2 k = ![0, 0, k.val * 640] := by
  have : ∀ k : Fin k1_t1_loop.trips, k1_off2 k = ![0, 0, k.val * 640] := by decide +kernel
  exact this k
theorem off3_eq (k : Fin k1_t1_loop.trips) : k1_off3 k = ![1, 0, k.val * 640] := by
  have : ∀ k : Fin k1_t1_loop.trips, k1_off3 k = ![1, 0, k.val * 640] := by decide +kernel
  exact this k
theorem off4_eq (k : Fin k1_t1_loop.trips) : k1_off4 k = ![2, 0, k.val * 640] := by
  have : ∀ k : Fin k1_t1_loop.trips, k1_off4 k = ![2, 0, k.val * 640] := by decide +kernel
  exact this k
theorem off5_eq (k : Fin k1_t1_loop.trips) : k1_off5 k = ![3, 0, k.val * 640] := by
  have : ∀ k : Fin k1_t1_loop.trips, k1_off5 k = ![3, 0, k.val * 640] := by decide +kernel
  exact this k
theorem off6_eq (k : Fin k1_t1_loop.trips) : k1_off6 k = ![4, 0, k.val * 640] := by
  have : ∀ k : Fin k1_t1_loop.trips, k1_off6 k = ![4, 0, k.val * 640] := by decide +kernel
  exact this k
theorem off8_eq (k : Fin k1_t2_loop.trips) : k1_off8 k = ![0, k.val * 640] := by
  have : ∀ k : Fin k1_t2_loop.trips, k1_off8 k = ![0, k.val * 640] := by decide +kernel
  exact this k

/-- A load of one class row's block of columns reads the block at that row and those columns. -/
theorem ld3 {n : ℕ} (x : BX Ideal) (off : Fin 3 → ℕ) (inb : ∀ a, off a + (⟨3, ![1, 16, n]⟩ : Shape).size a ≤ S5x16x20000.size a) (j : Fin 5) (o : ℕ)
    (e : off = ![j.val, 0, o]) (b : Fin 16) (l : Fin n) (h : o + l.val < 20000) :
    x ((Rect.unit (s := S5x16x20000) off (⟨3, ![1, 16, n]⟩ : Shape).size inb).emb (ix3 0 b l)) = x (ix3 j b ⟨o + l.val, h⟩) := by
  subst e
  refine congrArg x (funext fun a => Fin.ext ?_)
  match a with
  | 0 => show j.val + 1 * 0 = j.val; omega
  | 1 => show 0 + 1 * b.val = b.val; omega
  | 2 => show o + 1 * l.val = o + l.val; omega

theorem ld2 {α : Type} {n : ℕ} (x : S16x20000.Idx → α) (off : Fin 2 → ℕ) (inb : ∀ a, off a + (⟨2, ![16, n]⟩ : Shape).size a ≤ S16x20000.size a) (o : ℕ)
    (e : off = ![0, o]) (b : Fin 16) (l : Fin n) (h : o + l.val < 20000) :
    x ((Rect.unit (s := S16x20000) off (⟨2, ![16, n]⟩ : Shape).size inb).emb (ix2 b l)) = x (ix2 b ⟨o + l.val, h⟩) := by
  subst e
  refine congrArg x (funext fun a => Fin.ext ?_)
  match a with
  | 0 => show 0 + 1 * b.val = b.val; omega
  | 1 => show o + 1 * l.val = o + l.val; omega

theorem xA_at (x : BX Ideal) (k : Fin k1_t1_loop.trips) (b : Fin 16) (l : Fin 640) : xA x k (ix3 0 b l) = x (ix3 0 b (col k.val (lt1 k) l)) :=
  ld3 x _ (k1_off2_inb k) 0 _ (off2_eq k) b l _
theorem xB_at (x : BX Ideal) (k : Fin k1_t1_loop.trips) (b : Fin 16) (l : Fin 640) : xB x k (ix3 0 b l) = x (ix3 1 b (col k.val (lt1 k) l)) :=
  ld3 x _ (k1_off3_inb k) 1 _ (off3_eq k) b l _
theorem xC_at (x : BX Ideal) (k : Fin k1_t1_loop.trips) (b : Fin 16) (l : Fin 640) : xC x k (ix3 0 b l) = x (ix3 2 b (col k.val (lt1 k) l)) :=
  ld3 x _ (k1_off4_inb k) 2 _ (off4_eq k) b l _
theorem xD_at (x : BX Ideal) (k : Fin k1_t1_loop.trips) (b : Fin 16) (l : Fin 640) : xD x k (ix3 0 b l) = x (ix3 3 b (col k.val (lt1 k) l)) :=
  ld3 x _ (k1_off5_inb k) 3 _ (off5_eq k) b l _
theorem xE_at (x : BX Ideal) (k : Fin k1_t1_loop.trips) (b : Fin 16) (l : Fin 640) : xE x k (ix3 0 b l) = x (ix3 4 b (col k.val (lt1 k) l)) :=
  ld3 x _ (k1_off6_inb k) 4 _ (off6_eq k) b l _
theorem xTA_at (x : BX Ideal) (b : Fin 16) (l : Fin 160) : xTA x (ix3 0 b l) = x (ix3 0 b (colT l)) := ld3 x _ _ 0 _ rfl b l _
theorem xTB_at (x : BX Ideal) (b : Fin 16) (l : Fin 160) : xTB x (ix3 0 b l) = x (ix3 1 b (colT l)) := ld3 x _ _ 1 _ rfl b l _
theorem xTC_at (x : BX Ideal) (b : Fin 16) (l : Fin 160) : xTC x (ix3 0 b l) = x (ix3 2 b (colT l)) := ld3 x _ _ 2 _ rfl b l _
theorem xTD_at (x : BX Ideal) (b : Fin 16) (l : Fin 160) : xTD x (ix3 0 b l) = x (ix3 3 b (colT l)) := ld3 x _ _ 3 _ rfl b l _
theorem xTE_at (x : BX Ideal) (b : Fin 16) (l : Fin 160) : xTE x (ix3 0 b l) = x (ix3 4 b (colT l)) := ld3 x _ _ 4 _ rfl b l _
theorem tgA_at (x : BT Ideal) (k : Fin k1_t1_loop.trips) (b : Fin 16) (l : Fin 640) : tgA x k (ix2 b l) = x (ix2 b (col k.val (lt1 k) l)) :=
  ld2 x _ (k1_off1_inb k) _ (off1_eq k) b l _
theorem xtA_at (x : BS Ideal) (k : Fin k1_t1_loop.trips) (b : Fin 16) (l : Fin 640) : xtA x k (ix2 b l) = x (ix2 b (col k.val (lt1 k) l)) :=
  ld2 x _ (k1_off1_inb k) _ (off1_eq k) b l _
theorem tgT_at (x : BT Ideal) (b : Fin 16) (l : Fin 160) : tgT x (ix2 b l) = x (ix2 b (colT l)) := ld2 x _ _ _ rfl b l _
theorem xtT_at (x : BS Ideal) (b : Fin 16) (l : Fin 160) : xtT x (ix2 b l) = x (ix2 b (colT l)) := ld2 x _ _ _ rfl b l _

/-! ## One trip, at a position -/

/-- The five classes' terms at a position, after `s`. -/
def add5 (x : BX Ideal) (b : Fin 16) (a : Fin 20000) (s : EReal) : EReal :=
  s + f0E (x (ix3 0 b a)) + f0E (x (ix3 1 b a)) + f0E (x (ix3 2 b a)) + f0E (x (ix3 3 b a)) + f0E (x (ix3 4 b a))

/-- The logit picked at a position among the five classes, after `s`. -/
def pick5 (i : grid1.Coords) (x : BX Ideal) (tg : BT Ideal) (b : Fin 16) (a : Fin 20000) (s : EReal) : EReal :=
  s + pk (cls1 i 0#32) (tg (ix2 b a)) (x (ix3 0 b a)) + pk (cls1 i 1#32) (tg (ix2 b a)) (x (ix3 1 b a)) + pk (cls1 i 2#32) (tg (ix2 b a)) (x (ix3 2 b a))
    + pk (cls1 i 3#32) (tg (ix2 b a)) (x (ix3 3 b a)) + pk (cls1 i 4#32) (tg (ix2 b a)) (x (ix3 4 b a))

theorem clsV_at (x : BX Ideal) (k : Fin k1_t1_loop.trips) (acc : FVec Ideal S16x640 .f32) (b : Fin 16) (l : Fin 640) :
    clsV x k acc (ix2 b l) = add5 x b (col k.val (lt1 k) l) (acc (ix2 b l)) := by
  unfold add5
  rw [← xA_at x k b l, ← xB_at x k b l, ← xC_at x k b l, ← xD_at x k b l, ← xE_at x k b l]
  pointwise [clsV, k1_pay19, k1_pay18, k1_pay17, k1_pay16, k1_pay14, k1_pay13, k1_pay12, k1_pay11, k1_pay10, k1_pay8, k1_pay7, k1_pay5, k1_pay4, f0E, sgE]

theorem clsW_at (i : grid1.Coords) (x : BX Ideal) (tg : BT Ideal) (xt : BS Ideal) (k : Fin k1_t1_loop.trips) (b : Fin 16) (l : Fin 640) :
    clsW i x tg xt k (ix2 b l) = pick5 i x tg b (col k.val (lt1 k) l) (xt (ix2 b (col k.val (lt1 k) l))) := by
  unfold pick5
  rw [← xA_at x k b l, ← xB_at x k b l, ← xC_at x k b l, ← xD_at x k b l, ← xE_at x k b l, ← tgA_at tg k b l, ← xtA_at xt k b l]
  pointwise [clsW, k1_pay36, k1_pay20, k1_pay18, k1_pay15, k1_pay9, k1_pay6, k1_pay7, k1_pay10, k1_pay16, k1_pay4, pk, cls1]

theorem tailW_at (i : grid1.Coords) (x : BX Ideal) (tg : BT Ideal) (xt : BS Ideal) (b : Fin 16) (l : Fin 160) :
    tailW i x tg xt (ix2 b l) = pick5 i x tg b (colT l) (xt (ix2 b (colT l))) := by
  unfold pick5
  rw [← xTA_at x b l, ← xTB_at x b l, ← xTC_at x b l, ← xTD_at x b l, ← xTE_at x b l, ← tgT_at tg b l, ← xtT_at xt b l]
  pointwise [tailW, tail4, tail3, tail2, k1_pay51, k1_pay49, k1_pay48, k1_pay46, k1_pay45, k1_pay43, k1_pay40, k1_pay41, k1_pay38, pk, cls1]

theorem corV_at (tg : BT Ideal) (xt : BS Ideal) (k : Fin k1_t2_loop.trips) (acc : FVec Ideal S16x640 .f32) (b : Fin 16) (l : Fin 640) :
    corV tg xt k acc (ix2 b l)
      = acc (ix2 b l) + pos (tg (ix2 b (col k.val (lt2 k) l))) (corE (xt (ix2 b (col k.val (lt2 k) l)))) := by
  have h1 := ld2 tg _ (off8_inb k) _ (off8_eq k) b l (col k.val (lt2 k) l).isLt
  have h2 := ld2 xt _ (off8_inb k) _ (off8_eq k) b l (col k.val (lt2 k) l).isLt
  have e1 : View.ld tg (Rect.unit (s := S16x20000) (k1_off8 k) S16x640.size (off8_inb k)) (ix2 b l) = tg (ix2 b (col k.val (lt2 k) l)) := h1
  have e2 : View.ld xt (Rect.unit (s := S16x20000) (k1_off8 k) S16x640.size (off8_inb k)) (ix2 b l) = xt (ix2 b (col k.val (lt2 k) l)) := h2
  rw [← e1, ← e2]
  generalize hA : View.ld tg (Rect.unit (s := S16x20000) (k1_off8 k) S16x640.size (off8_inb k)) = A
  generalize hB : View.ld xt (Rect.unit (s := S16x20000) (k1_off8 k) S16x640.size (off8_inb k)) = B
  unfold corV
  rw [hA, hB]
  pointwise [k1_pay23, k1_pay21, pos, corE, sgE]

theorem acc0_at (b : Fin 16) (l : Fin 640) : k1_pay35 (F := Ideal) (ix2 b l) = 0 := by
  pointwise [k1_pay35]
theorem cor0_at (b : Fin 16) (l : Fin 640) : k1_pay22 (F := Ideal) (ix2 b l) = 0 := by
  pointwise [k1_pay22]
theorem xt0_at (b : Fin 16) (a : Fin 20000) : k1_pay34 (F := Ideal) (ix2 b a) = 0 := by
  pointwise [k1_pay34]

/-! ## The sums -/

theorem sum1_eq (v : FVec Ideal S16x640 .f32) : k1_pay37 (F := Ideal) v = ∑ b : Fin 16, ∑ l : Fin 640, v (ix2 b l) := by
  pointwise [k1_pay37]
theorem cor24_eq (v : FVec Ideal S16x640 .f32) : k1_pay24 (F := Ideal) v = ∑ b : Fin 16, ∑ l : Fin 640, v (ix2 b l) := by
  pointwise [k1_pay24]

theorem denseNext_eq (x : BX Ideal) (d : EReal) :
    denseNext (F := Ideal) x d = d + (sum1 x + (∑ b : Fin 16, ∑ l : Fin 160, f0E (x (ix3 0 b (colT l)))) + (∑ b : Fin 16, ∑ l : Fin 160, f0E (x (ix3 1 b (colT l))))
      + (∑ b : Fin 16, ∑ l : Fin 160, f0E (x (ix3 2 b (colT l)))) + (∑ b : Fin 16, ∑ l : Fin 160, f0E (x (ix3 3 b (colT l))))
      + (∑ b : Fin 16, ∑ l : Fin 160, f0E (x (ix3 4 b (colT l))))) := by
  simp only [← xTA_at, ← xTB_at, ← xTC_at, ← xTD_at, ← xTE_at]
  pointwise [denseNext, sum4, sum3, sum2, k1_pay52, k1_pay50, k1_pay49, k1_pay47, k1_pay46, k1_pay44, k1_pay43, k1_pay42, k1_pay41, k1_pay39, k1_pay38, f0E, sgE]

theorem corSum_eq (tg : BT Ideal) (xt : BS Ideal) :
    corSum (F := Ideal) tg xt = k1_pay24 (corAcc tg xt k1_t2_loop.trips) + ∑ b : Fin 16, ∑ l : Fin 160, pos (tg (ix2 b (colT l))) (corE (xt (ix2 b (colT l)))) := by
  simp only [← tgT_at, ← xtT_at]
  pointwise [corSum, k1_pay2, k1_pay25, k1_pay26, k1_pay27, k1_pay28, k1_pay29, k1_pay30, k1_pay31, k1_pay32, k1_pay33, pos, corE, sgE]

/-! ## The box term, the count and the loss -/

/-- A sum along every axis but a unit one is the sum of all entries. -/
theorem reduceAll {n1 n2 n3 : ℕ} (h : (⟨4, ![1, n1, n2, n3]⟩ : Shape).Reduces [1, 2, 3] S1) (v : (⟨4, ![1, n1, n2, n3]⟩ : Shape).Idx → EReal) (j : S1.Idx) :
    Ideal.reduceAdd h v j = ∑ x : Fin n1, ∑ y : Fin n2, ∑ z : Fin n3, v (ix4 0 x y z) := by
  have e : ∀ a b : S1.Idx, a = b := fun a b => funext fun r => by
    match r with
    | 0 => exact Subsingleton.elim (α := Fin 1) _ _
  show ∑ i ∈ Finset.univ.filter (fun i => h.drop i = j), v i = _
  rw [Finset.filter_true_of_mem (fun i _ => e _ _), sum_idx4, Fin.sum_univ_one]

/-- The smooth absolute difference of two box coordinates. -/
def boxE (x y : EReal) : EReal :=
  if FloatOps.absf (F := Ideal) (φ := .f32) (x - y) < 1 then kHalf * (x - y) * (x - y) else FloatOps.absf (F := Ideal) (φ := .f32) (x - y) - kHalf

theorem pay1_eq (tg : IVec S8x20000 32) (x y : FVec Ideal S8x4x20000 .f32) (l : EReal) :
    k1_pay1 (F := Ideal) tg x y l = l + ∑ b : Fin 8, ∑ c : Fin 4, ∑ a : Fin 20000, pos (tg (ix2 b a)) (boxE (x (ix3 b c a)) (y (ix3 b c a))) := by
  pointwise [k1_pay1, reduceAll, pos, boxE]

theorem pay3_eq (x : FVec Ideal S32x1x16 .f32) (v : EReal) (c) (d e f g : FVec Ideal S16x160 .f32) (h i : EReal) :
    k1_pay3 (F := Ideal) v c d e f g x h i
      = if i = 0 then kThree * h + k1_pay2 (F := Ideal) v c d e f g
        else Ideal.div (i + (kThree * h + k1_pay2 (F := Ideal) v c d e f g)) (∑ w : Fin 32, ∑ _u : Fin 1, ∑ y : Fin 16, x (ix3 w 0 y)) := by
  pointwise [k1_pay3, reduceAll]

end Cert.Proof.Run
-- ==== Proof.KerSums.lean ====
/-
  The TensorCore call's loops, summed: what one point adds to the dense sum and to the picked logits, and the correction
  and the box term as sums over all positions.
-/
module

public import proofs.«01_k».proof.Proof.Terms

@[expose] public section

set_option maxRecDepth 16384

noncomputable section

namespace Cert.Proof.Run

open Cert.KernelIdeal Cert.KernelIdeal.Gen

open Idealize.ShloMosaic Idealize.SL.Sem

/-- A sum over the columns: the trips' columns, then the tail's. -/
theorem sum_cols (g : Fin 20000 → EReal) :
    ∑ a, g a = (∑ l : Fin 640, ∑ k : Fin 31, g (col k.val k.isLt l)) + ∑ l : Fin 160, g (colT l) := by
  rw [Fin.sum_univ_two_halves 19840 160 rfl g, Fin.sum_univ_tiles 31 640 rfl, Finset.sum_comm]
  rfl

/-! ## The dense sum -/

/-- The five classes' terms at a position. -/
def D5 (x : BX Ideal) (b : Fin 16) (a : Fin 20000) : EReal := ∑ j : Fin 5, f0E (x (ix3 j b a))

theorem add5_eq (x : BX Ideal) (b : Fin 16) (a : Fin 20000) (s : EReal) : add5 x b a s = s + D5 x b a := by
  rw [add5, D5, Fin.sum_univ_five]
  simp only [add_assoc]

theorem clsAcc_at (x : BX Ideal) (b : Fin 16) (l : Fin 640) (n : ℕ) (hn : n ≤ 31) :
    clsAcc x n (ix2 b l) = ∑ k : Fin n, D5 x b (col k.val (lt_of_lt_of_le k.isLt hn) l) := by
  induction n with
  | zero => rw [Finset.univ_eq_empty, Finset.sum_empty]; exact acc0_at b l
  | succ n ih =>
    have h : n < k1_t1_loop.trips := by rw [trips1]; omega
    rw [Fin.sum_univ_castSucc, clsAcc_succ x ⟨n, h⟩, clsV_at, add5_eq, ih (by omega)]
    rfl

theorem sum1_at (x : BX Ideal) : sum1 x = ∑ b : Fin 16, ∑ l : Fin 640, ∑ k : Fin 31, D5 x b (col k.val k.isLt l) := by
  rw [sum1, sum1_eq]
  refine Finset.sum_congr rfl fun b _ => Finset.sum_congr rfl fun l _ => ?_
  rw [show k1_t1_loop.trips = 31 from trips1, clsAcc_at x b l 31 le_rfl]

theorem denseNext_at (x : BX Ideal) (d : EReal) : denseNext (F := Ideal) x d = d + ∑ b : Fin 16, ∑ a : Fin 20000, D5 x b a := by
  rw [denseNext_eq, sum1_at]
  simp only [sum_cols, Finset.sum_add_distrib]
  congr 1
  simp only [add_assoc]
  congr 1
  simp only [D5, Fin.sum_univ_five, Finset.sum_add_distrib, add_assoc]

/-! ## The picked logits -/

theorem put_in {n : ℕ} (x : BS Ideal) (o : ℕ) (w : (⟨2, ![16, n]⟩ : Shape).Idx → EReal) (b : Fin 16) (a : Fin 20000) (l : Fin n) (e : a.val = o + l.val) :
    VecWindow.put (s := S16x20000) x ![0, o] (⟨2, ![16, n]⟩ : Shape).size w (ix2 b a) = w (ix2 b l) := by
  unfold VecWindow.put
  rw [dif_pos (by
    intro r
    match r with
    | 0 => exact ⟨Nat.zero_le _, by show b.val < 0 + 16; have := b.isLt; omega⟩
    | 1 => exact ⟨by show o ≤ a.val; omega, by show a.val < o + n; have := l.isLt; omega⟩)]
  refine congrArg w (funext fun r => Fin.ext ?_)
  match r with
  | 0 => show b.val - 0 = b.val; omega
  | 1 => show a.val - o = l.val; omega

theorem put_out {n : ℕ} (x : BS Ideal) (o : ℕ) (w : (⟨2, ![16, n]⟩ : Shape).Idx → EReal) (b : Fin 16) (a : Fin 20000) (e : a.val < o ∨ o + n ≤ a.val) :
    VecWindow.put (s := S16x20000) x ![0, o] (⟨2, ![16, n]⟩ : Shape).size w (ix2 b a) = x (ix2 b a) := by
  unfold VecWindow.put
  rw [dif_neg (by
    intro h
    have h1 : o ≤ a.val ∧ a.val < o + n := h 1
    omega)]

theorem clsXt_at (i : grid1.Coords) (x : BX Ideal) (tg : BT Ideal) (xt : BS Ideal) (b : Fin 16) (a : Fin 20000) (n : ℕ) (hn : n ≤ 31) :
    clsXt i x tg xt n (ix2 b a) = if a.val < n * 640 then pick5 i x tg b a (xt (ix2 b a)) else xt (ix2 b a) := by
  induction n with
  | zero => rw [if_neg (by omega)]; rfl
  | succ n ih =>
    have h : n < k1_t1_loop.trips := by rw [trips1]; omega
    have ih := ih (by omega)
    rw [clsXt_succ i x tg xt ⟨n, h⟩, off1_eq]
    by_cases h1 : n * 640 ≤ a.val ∧ a.val < n * 640 + 640
    · have hl : a.val - n * 640 < 640 := by omega
      have ha : col n (by omega) ⟨a.val - n * 640, hl⟩ = a := Fin.ext (by show n * 640 + (a.val - n * 640) = a.val; omega)
      rw [if_neg (by omega)] at ih
      rw [if_pos (by omega)]
      refine (put_in _ (n * 640) _ b a ⟨a.val - n * 640, hl⟩ (by show a.val = n * 640 + (a.val - n * 640); omega)).trans ?_
      rw [clsW_at]
      show pick5 i x tg b (col n _ _) (clsXt i x tg xt n (ix2 b (col n _ _))) = _
      rw [ha, ih]
    · refine (put_out _ (n * 640) _ b a (by omega)).trans ?_
      show clsXt i x tg xt n (ix2 b a) = _
      rw [ih]
      by_cases h2 : a.val < n * 640
      · rw [if_pos h2, if_pos (by omega)]
      · rw [if_neg h2, if_neg (by omega)]

theorem xtNext_at (i : grid1.Coords) (x : BX Ideal) (tg : BT Ideal) (xt : BS Ideal) (b : Fin 16) (a : Fin 20000) :
    xtNext i x tg xt (ix2 b a) = pick5 i x tg b a (xt (ix2 b a)) := by
  unfold xtNext
  have hx : ∀ a, clsXt i x tg xt k1_t1_loop.trips (ix2 b a) = if a.val < 31 * 640 then pick5 i x tg b a (xt (ix2 b a)) else xt (ix2 b a) := fun a => by
    rw [show k1_t1_loop.trips = 31 from trips1]
    exact clsXt_at i x tg xt b a 31 le_rfl
  by_cases h1 : a.val < 19840
  · refine (put_out _ 19840 _ b a (by omega)).trans ?_
    rw [hx, if_pos (by omega)]
  · have hl : a.val - 19840 < 160 := by have := a.isLt; omega
    have ha : colT ⟨a.val - 19840, hl⟩ = a := Fin.ext (by show 19840 + (a.val - 19840) = a.val; omega)
    refine (put_in _ 19840 _ b a ⟨a.val - 19840, hl⟩ (by show a.val = 19840 + (a.val - 19840); omega)).trans ?_
    rw [tailW_at, ha, hx, if_neg (by omega)]

/-! ## The correction -/

theorem corAcc_at (tg : BT Ideal) (xt : BS Ideal) (b : Fin 16) (l : Fin 640) (n : ℕ) (hn : n ≤ 31) :
    corAcc tg xt n (ix2 b l) = ∑ k : Fin n, pos (tg (ix2 b (col k.val (lt_of_lt_of_le k.isLt hn) l))) (corE (xt (ix2 b (col k.val (lt_of_lt_of_le k.isLt hn) l)))) := by
  induction n with
  | zero => rw [Finset.univ_eq_empty, Finset.sum_empty]; exact cor0_at b l
  | succ n ih =>
    have h : n < k1_t2_loop.trips := by rw [trips2]; omega
    rw [Fin.sum_univ_castSucc, corAcc_succ tg xt ⟨n, h⟩, corV_at, ih (by omega)]
    rfl

theorem corSum_at (tg : BT Ideal) (xt : BS Ideal) :
    corSum (F := Ideal) tg xt = ∑ b : Fin 16, ∑ a : Fin 20000, pos (tg (ix2 b a)) (corE (xt (ix2 b a))) := by
  rw [corSum_eq, cor24_eq]
  simp only [sum_cols, Finset.sum_add_distrib]
  congr 1
  refine Finset.sum_congr rfl fun b _ => Finset.sum_congr rfl fun l _ => ?_
  rw [show k1_t2_loop.trips = 31 from trips2, corAcc_at tg xt b l 31 le_rfl]

/-! ## The box term -/

theorem off7_eq (i : grid1.Coords) : k1_off7 i = ![8 * (i 0).val, 0] := by
  have : ∀ n : Fin 4, (Scalar.muli (BitVec.ofNat 32 n.val) 8#32).toNat = 8 * n.val := by decide +kernel
  exact congrArg (fun n => ![n, 0]) (this (i 0))

theorem boxNext_at (i : grid1.Coords) (h2 : k1_cond2 i = 1#1) (hi : (i 0).val < 2) (tg : BT Ideal) (lp lt : BL Ideal) (l : EReal) :
    boxNext (F := Ideal) i h2 tg lp lt l
      = l + ∑ b : Fin 8, ∑ c : Fin 4, ∑ a : Fin 20000,
          pos (tg (ix2 ⟨8 * (i 0).val + b.val, by have := b.isLt; omega⟩ a)) (boxE (lp (ix3 b c a)) (lt (ix3 b c a))) := by
  unfold boxNext
  rw [pay1_eq]
  refine congrArg (l + ·) (Finset.sum_congr rfl fun b _ => Finset.sum_congr rfl fun c _ => Finset.sum_congr rfl fun a _ => ?_)
  refine congrArg (fun t => pos t (boxE (lp (ix3 b c a)) (lt (ix3 b c a)))) ?_
  show tg ((Rect.unit (s := S16x20000) (k1_off7 i) S8x20000.size (k1_off7_inb i h2)).emb (ix2 b a)) = _
  refine congrArg tg (funext fun r => Fin.ext ?_)
  have e := off7_eq i
  match r with
  | 0 => show k1_off7 i 0 + 1 * b.val = 8 * (i 0).val + b.val; rw [e]; show 8 * (i 0).val + 1 * b.val = _; omega
  | 1 => show k1_off7 i 1 + 1 * a.val = a.val; rw [e]; show 0 + 1 * a.val = _; omega

end Cert.Proof.Run
-- ==== Proof.Windows.lean ====
/-
  The TensorCore call's windows at coordinates: which rows of its arrays each point's blocks hold.
-/
module

public import proofs.«01_k».proof.Proof.TcRegion
public import Idealize.ShloMosaic.Lib.Pipeline.ValueKit
public import Idealize.ShloMosaic.Lib.Pointwise

@[expose] public section

set_option maxRecDepth 16384

noncomputable section

namespace Cert.Proof.Run

open Cert.KernelIdeal Cert.KernelIdeal.Gen

open Idealize.ShloMosaic Idealize.ShloMosaic.TcCoe Idealize.SL.Sem

variable {F : FTy → Type} [FloatOps F] [∀ e, Nonempty (Elt F e)] (V : (c : Dev nD) → (b : Ref sig .tc) → Buf (Elt F) ((c : Thread nD τ).loc b)) (c : Dev nD)

theorem idx1 : ∀ t : Fin cfg1.N, win1_0.index t = ![t.val, 0, 0] ∧ win1_1.index t = ![0, 0] ∧ win1_2.index t = ![min t.val 1, 0, 0]
    ∧ win1_3.index t = ![min t.val 1, 0, 0] ∧ win1_4.index t = ![0, 0, 0] ∧ (grid1.coords t 0).val = t.val :=
  (by decide +kernel : ∀ t : Fin grid1.N, _)

theorem winX_at (t : Fin cfg1.N) (j : Fin 5) (b : Fin 16) (a : Fin 20000) (n : Fin 20) (h : n.val = 5 * t.val + j.val) :
    winX V c t (ix3 j b a) = V c main_v0 (ix3 n b a) := by
  blk_ext [winX, idx1 t]

theorem winT_at (t : Fin cfg1.N) : winT V c t = V c main_arg3 := by
  blk_ext! [winT, idx1 t]

theorem winP_at (t : Fin cfg1.N) (j : Fin 8) (b : Fin 4) (a : Fin 20000) (n : Fin 16) (h : n.val = 8 * min t.val 1 + j.val) :
    winP V c t (ix3 j b a) = V c main_v1 (ix3 n b a) := by
  blk_ext [winP, idx1 t]

theorem winL_at (t : Fin cfg1.N) (j : Fin 8) (b : Fin 4) (a : Fin 20000) (n : Fin 16) (h : n.val = 8 * min t.val 1 + j.val) :
    winL V c t (ix3 j b a) = V c main_v2 (ix3 n b a) := by
  blk_ext [winL, idx1 t]

theorem winC_at (t : Fin cfg1.N) : winC V c t = V c main_v4 := by
  blk_ext! [winC, idx1 t]

end Cert.Proof.Run
-- ==== Proof.KerVal.lean ====
/-
  What the TensorCore call's four points leave: the dense sum, the picked logits and the box sum over its arrays, and
  the loss of them.
-/
module

public import proofs.«01_k».proof.Proof.KerSums
public import proofs.«01_k».proof.Proof.Windows

@[expose] public section

set_option maxRecDepth 16384

noncomputable section

namespace Cert.Proof.Run

open Cert.KernelIdeal Cert.KernelIdeal.Gen

open Idealize.ShloMosaic Idealize.ShloMosaic.TcCoe Idealize.SL.Sem

variable (V : (c : Dev nD) → (b : Ref sig .tc) → Buf (Elt Ideal) ((c : Thread nD τ).loc b)) (c : Dev nD)

/-- The arrays the call reads: logits by class, targets, predictions and box targets by coordinate, partial counts. -/
def arrX : S20x16x20000.Idx → EReal := V c main_v0
def arrT : S16x20000.Idx → BitVec 32 := V c main_arg3
def arrP : S16x4x20000.Idx → EReal := V c main_v1
def arrL : S16x4x20000.Idx → EReal := V c main_v2
def arrC : S32x1x16.Idx → EReal := V c main_v4

theorem zero_bits : (Scalar.ofBits (F := Ideal) .f32 0x00000000#32 : EReal) = 0 := by
  pointwise []

theorem N1 : cfg1.N = 4 := by decide +kernel

theorem addR {a b b' : EReal} (h : b = b') : a + b = a + b' := by rw [h]
theorem addL {a a' b : EReal} (h : a = a') : a + b = a' + b := by rw [h]

/-- A quantity that restarts at the first of four points and grows by `G` at each. -/
theorem four (f G : ℕ → EReal) (h : ∀ t, t < 4 → f (t + 1) = (if t = 0 then 0 else f t) + G t) : f 4 = ∑ t : Fin 4, G t.val := by
  have h0 := h 0 (by omega)
  have h1 := h 1 (by omega)
  have h2 := h 2 (by omega)
  have h3 := h 3 (by omega)
  rw [Fin.sum_univ_four]
  simp only [if_pos, if_neg, zero_add, one_ne_zero, OfNat.ofNat_ne_zero, if_true, if_false] at h0 h1 h2 h3
  have e : f 4 = G 0 + G 1 + G 2 + G 3 := by
    rw [show f 4 = f 3 + G 3 from h3, show f 3 = f 2 + G 2 from h2, show f 2 = f 1 + G 1 from h1, h0]
  exact e

/-- The class of row `j` at point `t`. -/
def row (t : ℕ) (ht : t < 4) (j : Fin 5) : Fin 20 := ⟨t * 5 + j.val, by have := j.isLt; omega⟩

theorem sum_rows (f : Fin 20 → EReal) : ∑ n, f n = ∑ t : Fin 4, ∑ j : Fin 5, f (row t.val t.isLt j) :=
  Fin.sum_univ_tiles 4 5 rfl f

theorem tlt (t : Fin cfg1.N) : t.val < 4 := lt_of_lt_of_eq t.isLt N1

theorem winX_row (t : Fin cfg1.N) (j : Fin 5) (b : Fin 16) (a : Fin 20000) :
    winX V c t (ix3 j b a) = arrX V c (ix3 (row t.val (tlt t) j) b a) :=
  winX_at V c t j b a _ (by show t.val * 5 + j.val = _; omega)

/-! ## The dense sum -/

theorem d0_at (t : Fin cfg1.N) (d : B1 Ideal) : d0 (grid1.coords t) d z11 = if t.val = 0 then (0 : EReal) else d z11 := by
  unfold d0
  by_cases h : t.val = 0
  · rw [if_pos ((cond1_iff t).mpr h), if_pos h]; exact zero_bits
  · rw [if_neg (fun e => h ((cond1_iff t).mp e)), if_neg h]

theorem dAt_end : dAt V c 4 z11 = ∑ n : Fin 20, ∑ b : Fin 16, ∑ a : Fin 20000, f0E (arrX V c (ix3 n b a)) := by
  rw [sum_rows]
  refine (four (fun n => dAt V c n z11)
    (fun t => if ht : t < 4 then ∑ j : Fin 5, ∑ b : Fin 16, ∑ a : Fin 20000, f0E (arrX V c (ix3 (row t ht j) b a)) else 0) ?_).trans ?_
  · intro t ht
    have e := congrFun (dAt_succ V c ⟨t, by rw [N1]; exact ht⟩) z11
    refine e.trans ?_
    show denseNext _ _ = _
    rw [denseNext_at, d0_at, dif_pos ht]
    refine addR ?_
    rw [Finset.sum_comm]
    conv_rhs => rw [Finset.sum_comm]; enter [2, b]; rw [Finset.sum_comm]
    rw [Finset.sum_comm]
    refine Finset.sum_congr rfl fun b _ => Finset.sum_congr rfl fun a _ => ?_
    unfold D5
    refine Finset.sum_congr rfl fun j _ => ?_
    rw [winX_row]
  · exact Finset.sum_congr rfl fun t _ => dif_pos t.isLt

/-! ## The picked logits -/

theorem cls1_eq (t : Fin cfg1.N) (j : Fin 5) : cls1 (grid1.coords t) (BitVec.ofNat 32 j.val) = BitVec.ofNat 32 (1 + (row t.val (tlt t) j).val) := by
  have h : ∀ (t : Fin cfg1.N) (j : Fin 5), cls1 (grid1.coords t) (BitVec.ofNat 32 j.val) = BitVec.ofNat 32 (1 + (t.val * 5 + j.val)) := by
    decide +kernel
  exact h t j

theorem pick5_at (t : Fin cfg1.N) (b : Fin 16) (a : Fin 20000) (s : EReal) :
    pick5 (grid1.coords t) (winX V c t) (winT V c t) b a s
      = s + ∑ j : Fin 5, pk (BitVec.ofNat 32 (1 + (row t.val (tlt t) j).val)) (arrT V c (ix2 b a)) (arrX V c (ix3 (row t.val (tlt t) j) b a)) := by
  simp only [← cls1_eq, ← winX_row]
  rw [Fin.sum_univ_five]
  simp only [← add_assoc]
  unfold pick5
  rw [winT_at]
  rfl

theorem xtAt_end (b : Fin 16) (a : Fin 20000) :
    xtAt V c 4 (ix2 b a) = ∑ n : Fin 20, pk (BitVec.ofNat 32 (1 + n.val)) (arrT V c (ix2 b a)) (arrX V c (ix3 n b a)) := by
  rw [sum_rows]
  refine (four (fun n => xtAt V c n (ix2 b a))
    (fun t => if ht : t < 4 then ∑ j : Fin 5, pk (BitVec.ofNat 32 (1 + (row t ht j).val)) (arrT V c (ix2 b a)) (arrX V c (ix3 (row t ht j) b a)) else 0) ?_).trans ?_
  · intro t ht
    have e := congrFun (xtAt_succ V c ⟨t, by rw [N1]; exact ht⟩) (ix2 b a)
    refine e.trans ?_
    show xtNext _ _ _ _ _ = _
    rw [xtNext_at, pick5_at, dif_pos ht]
    refine addL ?_
    unfold xt0
    by_cases h : t = 0
    · rw [if_pos ((cond1_iff _).mpr h), if_pos h]; exact xt0_at b a
    · rw [if_neg (fun e => h ((cond1_iff _).mp e)), if_neg h]
  · exact Finset.sum_congr rfl fun t _ => dif_pos t.isLt

/-! ## The box sum -/

theorem cond2_iff (t : Fin cfg1.N) : k1_cond2 (grid1.coords t) = 1#1 ↔ t.val < 2 := by
  revert t; decide +kernel

theorem lAt_end : lAt V c 4 z11
    = ∑ b : Fin 16, ∑ k : Fin 4, ∑ a : Fin 20000, pos (arrT V c (ix2 b a)) (boxE (arrP V c (ix3 b k a)) (arrL V c (ix3 b k a))) := by
  rw [Fin.sum_univ_tiles 2 8 rfl]
  refine (four (fun n => lAt V c n z11)
    (fun t => if ht : t < 2 then ∑ b : Fin 8, ∑ k : Fin 4, ∑ a : Fin 20000,
      (fun n : Fin 16 => pos (arrT V c (ix2 n a)) (boxE (arrP V c (ix3 n k a)) (arrL V c (ix3 n k a)))) ⟨t * 8 + b.val, by have := b.isLt; omega⟩ else 0) ?_).trans ?_
  · intro t ht
    have htN : t < cfg1.N := by rw [N1]; exact ht
    have e := congrFun (lAt_succ V c ⟨t, htN⟩) z11
    refine e.trans ?_
    unfold box1
    have hc : (grid1.coords ⟨t, htN⟩ 0).val = t := (idx1 ⟨t, htN⟩).2.2.2.2.2
    by_cases h : t < 2
    · rw [dif_pos ((cond2_iff ⟨t, htN⟩).mpr h), dif_pos h]
      show boxNext _ _ _ _ _ _ = _
      rw [boxNext_at _ _ (by rw [hc]; exact h), d0_at]
      refine addR ?_
      refine Finset.sum_congr rfl fun b _ => Finset.sum_congr rfl fun k _ => Finset.sum_congr rfl fun a _ => ?_
      have hn : (⟨t * 8 + b.val, by have := b.isLt; omega⟩ : Fin 16).val = 8 * min (⟨t, htN⟩ : Fin cfg1.N).val 1 + b.val := by
        show t * 8 + b.val = 8 * min t 1 + b.val
        omega
      rw [winP_at V c _ b k a _ hn, winL_at V c _ b k a _ hn, winT_at]
      refine congrArg (fun n : Fin 16 => pos (V c main_arg3 (ix2 n a)) _) (Fin.ext ?_)
      show 8 * (grid1.coords ⟨t, htN⟩ 0).val + b.val = t * 8 + b.val
      rw [hc]; omega
    · rw [dif_neg (fun e => h ((cond2_iff ⟨t, htN⟩).mp e)), dif_neg h, d0_at, add_zero]
  · rw [Fin.sum_univ_four, Fin.sum_univ_two]
    simp only [Fin.val_zero, Fin.val_one]
    rw [dif_pos (by omega), dif_pos (by omega), dif_neg (by decide), dif_neg (by decide), add_zero, add_zero]

/-! ## The loss -/

/-- The dense sum, the correction, the box sum and the count, over the arrays. -/
def kDense : EReal := ∑ n : Fin 20, ∑ b : Fin 16, ∑ a : Fin 20000, f0E (arrX V c (ix3 n b a))
def kCor : EReal :=
  ∑ b : Fin 16, ∑ a : Fin 20000, pos (arrT V c (ix2 b a))
    (corE (∑ n : Fin 20, pk (BitVec.ofNat 32 (1 + n.val)) (arrT V c (ix2 b a)) (arrX V c (ix3 n b a))))
def kBox : EReal :=
  ∑ b : Fin 16, ∑ k : Fin 4, ∑ a : Fin 20000, pos (arrT V c (ix2 b a)) (boxE (arrP V c (ix3 b k a)) (arrL V c (ix3 b k a)))
def kNum : EReal := ∑ w : Fin 32, ∑ _u : Fin 1, ∑ y : Fin 16, arrC V c (ix3 w 0 y)

theorem lossOf_eq :
    lossOf V c = if kBox V c = 0 then kThree * kDense V c + kCor V c else Ideal.div (kBox V c + (kThree * kDense V c + kCor V c)) (kNum V c) := by
  have hcor : corSum (F := Ideal) (winT V c tEnd) (xtAt V c 4) = kCor V c := by
    rw [corSum_at, winT_at]
    refine Finset.sum_congr rfl fun b _ => Finset.sum_congr rfl fun a _ => ?_
    rw [xtAt_end]
    rfl
  unfold lossOf lossVal
  rw [pay3_eq]
  change (if _ then kThree * _ + corSum (F := Ideal) (winT V c tEnd) (xtAt V c 4) else Ideal.div (_ + (kThree * _ + corSum (F := Ideal) (winT V c tEnd) (xtAt V c 4))) _) = _
  rw [hcor, dAt_end, lAt_end, winC_at]
  rfl

end Cert.Proof.Run
-- ==== Proof.CountVal.lean ====
/-
  The SparseCore call's partial counts, summed: the number of positive targets.
-/
module

public import proofs.«01_k».proof.Proof.Terms

@[expose] public section

set_option maxRecDepth 16384

noncomputable section

namespace Cert.Proof.Run

open Cert.KernelIdeal Cert.KernelIdeal.Gen

open Idealize.ShloMosaic Idealize.SL.Sem

theorem trips0 : k0_t1_loop.trips = 125 := by decide +kernel

/-- Group `j` of trip `k`, lane `y`: its place in the chunk. -/
def place (k : ℕ) (hk : k < 125) (j : Fin 5) (y : Fin 16) : Fin 10000 := ⟨(k * 5 + j.val) * 16 + y.val, by have := j.isLt; have := y.isLt; omega⟩

theorem off0_eq (k : Fin k0_t1_loop.trips) (j : Fin 5) : k0_off2 k (BitVec.ofNat 32 j.val) = ![(k.val * 5 + j.val) * 16] := by
  have : ∀ (k : Fin k0_t1_loop.trips) (j : Fin 5), k0_off2 k (BitVec.ofNat 32 j.val) = ![(k.val * 5 + j.val) * 16] := by decide +kernel
  exact this k j

theorem lt0 (k : Fin k0_t1_loop.trips) : k.val < 125 := lt_of_lt_of_eq k.isLt trips0

/-- One group's load, at a lane. -/
theorem ld1 (b : S10000.Idx → BitVec 32) (k : Fin k0_t1_loop.trips) (j : Fin 5) (y : Fin 16) :
    b ((Rect.unit (s := S10000) (k0_off2 k (BitVec.ofNat 32 j.val)) S16.size (k0_off2_inb k j)).emb (ix1 y)) = b (ix1 (place k.val (lt0 k) j y)) := by
  refine congrArg b (funext fun r => Fin.ext ?_)
  match r with
  | 0 =>
    show k0_off2 k (BitVec.ofNat 32 j.val) 0 + 1 * y.val = (k.val * 5 + j.val) * 16 + y.val
    rw [off0_eq]
    show (k.val * 5 + j.val) * 16 + 1 * y.val = _
    omega

theorem pay23_at (acc : FVec Ideal S16 .f32) (a b c d e : IVec S16 32) (y : Fin 16) :
    k0_pay2 (F := Ideal) (k0_pay3 acc a b c) d e (ix1 y)
      = acc (ix1 y) + pos (a (ix1 y)) 1 + pos (b (ix1 y)) 1 + pos (c (ix1 y)) 1 + pos (d (ix1 y)) 1 + pos (e (ix1 y)) 1 := by
  pointwise [k0_pay2, k0_pay3, pos]

theorem acc00_at (y : Fin 16) : k0_pay1 (F := Ideal) (ix1 y) = 0 := by
  pointwise [k0_pay1]

theorem scStep_at (b : S10000.Idx → BitVec 32) (k : Fin k0_t1_loop.trips) (acc : FVec Ideal S16 .f32) (y : Fin 16) :
    scStep (F := Ideal) b k acc (ix1 y) = acc (ix1 y) + ∑ j : Fin 5, pos (b (ix1 (place k.val (lt0 k) j y))) 1 := by
  rw [Fin.sum_univ_five]
  simp only [← add_assoc]
  unfold scStep
  rw [pay23_at, ← ld1 b k 0 y, ← ld1 b k 1 y, ← ld1 b k 2 y, ← ld1 b k 3 y, ← ld1 b k 4 y]
  rfl

theorem scAcc_at (b : S10000.Idx → BitVec 32) (y : Fin 16) (n : ℕ) (hn : n ≤ 125) :
    scAcc (F := Ideal) b n (ix1 y) = ∑ k : Fin n, ∑ j : Fin 5, pos (b (ix1 (place k.val (lt_of_lt_of_le k.isLt hn) j y))) 1 := by
  induction n with
  | zero => rw [Finset.univ_eq_empty, Finset.sum_empty]; exact acc00_at y
  | succ n ih =>
    have h : n < k0_t1_loop.trips := by rw [trips0]; omega
    rw [Fin.sum_univ_castSucc, scAcc_succ b ⟨n, h⟩, scStep_at, ih (by omega)]
    rfl

theorem chunk_at (t : S320000.Idx → BitVec 32) (w : Fin 32) (n : Fin 10000) :
    chunkOf (F := Ideal) t w (ix1 n) = t (ix1 ⟨w.val * 10000 + n.val, by have := w.isLt; have := n.isLt; omega⟩) := by
  refine congrArg t (funext fun r => Fin.ext ?_)
  match r with
  | 0 => show 10000 * w.val + n.val = w.val * 10000 + n.val; omega

theorem parts_at (t : S320000.Idx → BitVec 32) (w : Fin 32) (y : Fin 16) :
    parts (F := Ideal) t (ix3 w 0 y) = ∑ k : Fin 125, ∑ j : Fin 5, pos (chunkOf (F := Ideal) t w (ix1 (place k.val k.isLt j y))) 1 := by
  rw [← scAcc_at (chunkOf (F := Ideal) t w) y 125 le_rfl]
  have e : (fun | 0 => y : S16.Idx) = ix1 y := funext fun r => by
    match r with
    | 0 => rfl
  rw [← e]
  unfold parts
  rw [show k0_t1_loop.trips = 125 from trips0]
  rfl

/-- The partial counts sum to the number of positive targets. -/
theorem parts_sum (t : S320000.Idx → BitVec 32) :
    ∑ w : Fin 32, ∑ _u : Fin 1, ∑ y : Fin 16, parts (F := Ideal) t (ix3 w 0 y) = ∑ n : Fin 320000, pos (t (ix1 n)) 1 := by
  rw [Fin.sum_univ_tiles 32 10000 rfl]
  refine Finset.sum_congr rfl fun w _ => ?_
  rw [Fin.sum_univ_one]
  simp only [parts_at, chunk_at]
  rw [Fin.sum_univ_tiles 625 16 rfl, Fin.sum_univ_tiles 125 5 rfl, Finset.sum_comm]
  refine Finset.sum_congr rfl fun k _ => ?_
  rw [Finset.sum_comm]
  rfl

end Cert.Proof.Run
-- ==== Proof.Entry.lean ====
/-
  The arrays the TensorCore call reads, as @main's arguments: the logits by class, the boxes by coordinate, the class
  targets, and the SparseCore call's partial counts of them.
-/
module

public import proofs.«01_k».proof.Proof.Run
public import proofs.«01_k».proof.Proof.KerVal
public import proofs.«01_k».proof.Proof.CountVal

@[expose] public section

set_option maxRecDepth 16384

noncomputable section

namespace Cert.Proof.Run

open Cert.KernelIdeal Cert.KernelIdeal.Gen

open Idealize.ShloMosaic Idealize.ShloMosaic.TcCoe Idealize.SL.Sem

variable (m : (ℓ : Loc nD τ sig) → Buf (Elt Ideal) ℓ) (d : Dev nD)

abbrev argP : FVec Ideal S16x20000x4 .f32 := m ((d : Thread nD τ).loc main_arg0)
abbrev argL : FVec Ideal S16x20000x4 .f32 := m ((d : Thread nD τ).loc main_arg1)
abbrev argX : FVec Ideal S16x20000x20 .f32 := m ((d : Thread nD τ).loc main_arg2)
abbrev argT : IVec S16x20000 32 := m ((d : Thread nD τ).loc main_arg3)

theorem v0_eq : V5 m d (ref main_v0) = transpose S20x16x20000 [2, 0, 1] (argX m d) transposes_S16x20000x20_S20x16x20000_2_0_1 := by
  rw [show V5 m d (ref main_v0) = V4 m d (ref main_v0) from Function.update_of_ne (by decide) _ _]; unfold V4
  rw [StableHlo.reshape_result_ne, StableHlo.unary_result_ne, StableHlo.unary_result_ne, StableHlo.unary_result] <;> first | rfl | decide

theorem v1_eq : V5 m d (ref main_v1) = transpose S16x4x20000 [0, 2, 1] (argP m d) transposes_S16x20000x4_S16x4x20000_0_2_1 := by
  rw [show V5 m d (ref main_v1) = V4 m d (ref main_v1) from Function.update_of_ne (by decide) _ _]; unfold V4
  rw [StableHlo.reshape_result_ne, StableHlo.unary_result_ne, StableHlo.unary_result, StableHlo.unary_result_ne] <;> first | rfl | decide

theorem v2_eq : V5 m d (ref main_v2) = transpose S16x4x20000 [0, 2, 1] (argL m d) transposes_S16x20000x4_S16x4x20000_0_2_1 := by
  rw [show V5 m d (ref main_v2) = V4 m d (ref main_v2) from Function.update_of_ne (by decide) _ _]; unfold V4
  rw [StableHlo.reshape_result_ne, StableHlo.unary_result, StableHlo.unary_result_ne, StableHlo.unary_result_ne] <;> first | rfl | decide

theorem v3_eq : Tm m d = shapeCast S320000 (argT m d) shapeCasts_S16x20000_S320000 := by
  show V4 m d (ref main_v3) = _
  unfold V4
  rw [StableHlo.reshape_result, StableHlo.unary_result_ne, StableHlo.unary_result_ne, StableHlo.unary_result_ne] <;> first | rfl | decide

theorem arrX_at (n : Fin 20) (b : Fin 16) (a : Fin 20000) : arrX (Vr m) d (ix3 n b a) = argX m d (ix3 b a n) := by
  refine (congrFun (v0_eq m d) (ix3 n b a)).trans ?_
  generalize argX m d = x
  pointwise []

theorem arrP_at (b : Fin 16) (k : Fin 4) (a : Fin 20000) : arrP (Vr m) d (ix3 b k a) = argP m d (ix3 b a k) := by
  refine (congrFun (v1_eq m d) (ix3 b k a)).trans ?_
  generalize argP m d = x
  pointwise []

theorem arrL_at (b : Fin 16) (k : Fin 4) (a : Fin 20000) : arrL (Vr m) d (ix3 b k a) = argL m d (ix3 b a k) := by
  refine (congrFun (v2_eq m d) (ix3 b k a)).trans ?_
  generalize argL m d = x
  pointwise []

theorem arrT_eq : arrT (Vr m) d = argT m d := V5_arg3 m d

theorem arrC_eq : arrC (Vr m) d = parts (Tm m d) := V5_v4 m d

theorem flat_at (b : Fin 16) (a : Fin 20000) (h : b.val * 20000 + a.val < 320000) :
    Tm m d (ix1 ⟨b.val * 20000 + a.val, h⟩) = argT m d (ix2 b a) := by
  refine (congrFun (v3_eq m d) (ix1 ⟨b.val * 20000 + a.val, h⟩)).trans ?_
  generalize argT m d = x
  pointwise []

end Cert.Proof.Run
-- ==== Proof.PreVal.lean ====
/-
  What the precondition says at one anchor: its class is one of 0 … 20, and that class's logit is not infinity.
-/
module

public import proofs.«01_k».proof.Proof.Gen.Pre_in_range
public import Idealize.ShloMosaic.Lib.Pointwise

@[expose] public section

set_option maxRecDepth 16384

noncomputable section

namespace Cert.Proof.Pre

open Cert.Pre_in_range Cert.Pre_in_range.Gen

open Idealize.ShloMosaic

theorem fn_at (p l : FVec Ideal S16x20000x4 .f32) (x : FVec Ideal S16x20000x20 .f32) (t : IVec S16x20000 32) (b : Fin 16) (a : Fin 20000) (k : Fin 20) :
    fn (F := Ideal) p l x t (ix3 b a k)
      = IntOp.andi (IntOp.andi (IntOp.ori (IntOp.cmpi .ne (t (ix2 b a)) (IntOp.addi 1#32 (BitVec.ofNat 32 k.val)))
            (FloatOps.cmpf (F := Ideal) (φ := .f32) .olt (x (ix3 b a k)) (Ideal.ofBits .f32 2139095040#32)))
          (IntOp.cmpi .sge (t (ix2 b a)) 0#32)) (IntOp.cmpi .sle (t (ix2 b a)) 20#32) := by
  pointwise [fn]

theorem inf_eq : Ideal.ofBits .f32 2139095040#32 = ⊤ := by
  have e1 : (BitVec.extractLsb' (8 + 23) 1 2139095040#32 == 1#1) = false := by decide
  have e2 : (BitVec.extractLsb' 23 8 2139095040#32).toNat = 255 := by decide
  have e3 : (BitVec.extractLsb' 0 23 2139095040#32).toNat = 0 := by decide
  show Ideal.ieee 8 23 2139095040#32 = _
  simp only [Ideal.ieee, e1, e2, e3]
  norm_num

theorem both (p q : BitVec 1) (h : IntOp.andi p q = 1#1) : p = 1#1 ∧ q = 1#1 := by
  revert p q; decide

theorem true_of (p : Bool) (h : BitVec.ofBool p = 1#1) : p = true := by
  revert p; decide

theorem either (p q : BitVec 1) (h : IntOp.ori p q = 1#1) : p = 1#1 ∨ q = 1#1 := by
  revert p q; decide

theorem below_of (x : EReal) (h : FloatOps.cmpf (F := Ideal) (φ := .f32) .olt x (Ideal.ofBits .f32 2139095040#32) = 1#1) : x ≠ ⊤ := by
  rw [inf_eq] at h
  have h' : x < ⊤ := of_decide_eq_true (true_of _ h)
  exact h'.ne

theorem other_bit (n : Fin 21) (k : Fin 20) (h : IntOp.cmpi .ne (BitVec.ofNat 32 n.val) (IntOp.addi 1#32 (BitVec.ofNat 32 k.val)) = 1#1) : n.val ≠ 1 + k.val := by
  revert n k; decide +kernel

theorem word_of (t : BitVec 32) (h0 : IntOp.cmpi .sge t 0#32 = 1#1) (h1 : IntOp.cmpi .sle t 20#32 = 1#1) : ∃ n : Fin 21, t = BitVec.ofNat 32 n.val := by
  have h0 := true_of _ h0
  have h1 := true_of _ h1
  simp only [BitVec.sle_eq_decide, decide_eq_true_eq, BitVec.toInt_eq_toNat_cond, BitVec.toNat_ofNat, Nat.reducePow, Nat.reduceMod] at h0 h1
  have h := t.isLt
  exact ⟨⟨t.toNat, by omega⟩, by simp⟩

/-- The precondition at an anchor: its class, and that class's logit. -/
theorem of_pre (p l : FVec Ideal S16x20000x4 .f32) (x : FVec Ideal S16x20000x20 .f32) (t : IVec S16x20000 32)
    (h : fn (F := Ideal) p l x t = fun _ => 1#1) (b : Fin 16) (a : Fin 20000) :
    ∃ n : Fin 21, t (ix2 b a) = BitVec.ofNat 32 n.val ∧ ∀ k : Fin 20, n.val = 1 + k.val → x (ix3 b a k) ≠ ⊤ := by
  have e : ∀ k, _ := fun k => both _ _ ((fn_at p l x t b a k).symm.trans (congrFun h (ix3 b a k)))
  obtain ⟨n, hn⟩ := word_of _ (both _ _ (e 0).1).2 (e 0).2
  refine ⟨n, hn, fun k hk => ?_⟩
  have hx := (both _ _ (e k).1).1
  rw [hn] at hx
  rcases either _ _ hx with hx | hx
  · exact absurd hk (other_bit n k hx)
  · exact below_of _ hx

end Cert.Proof.Pre
-- ==== Proof.Scalar.lean ====
/-
  The scalar mathematics: the kernel's dense term and correction of a real logit are real numbers, and together they are
  the reference's focal term, whether the logit's class is the target or not.
-/
module

public import proofs.«01_k».proof.Proof.Terms
public import Mathlib.Analysis.SpecialFunctions.Pow.Real

@[expose] public section

noncomputable section

namespace Cert.Proof.Run

open Idealize.ShloMosaic

/-! ## Constants -/

theorem kHalf_eq : kHalf = ((1 / 2 : ℝ) : EReal) := by
  have e1 : (BitVec.extractLsb' (8 + 23) 1 1056964608#32 == 1#1) = false := by decide
  have e2 : (BitVec.extractLsb' 23 8 1056964608#32).toNat = 126 := by decide
  have e3 : (BitVec.extractLsb' 0 23 1056964608#32).toNat = 0 := by decide
  show Ideal.ieee 8 23 1056964608#32 = _
  simp only [Ideal.ieee, e1, e2, e3]
  norm_num
theorem kThree_eq : kThree = ((3 / 4 : ℝ) : EReal) := by
  have e1 : (BitVec.extractLsb' (8 + 23) 1 1061158912#32 == 1#1) = false := by decide
  have e2 : (BitVec.extractLsb' 23 8 1061158912#32).toNat = 126 := by decide
  have e3 : (BitVec.extractLsb' 0 23 1061158912#32).toNat = 4194304 := by decide
  show Ideal.ieee 8 23 1061158912#32 = _
  simp only [Ideal.ieee, e1, e2, e3]
  norm_num
theorem kFour_eq : kFour = ((1 / 4 : ℝ) : EReal) := by
  have e1 : (BitVec.extractLsb' (8 + 23) 1 1048576000#32 == 1#1) = false := by decide
  have e2 : (BitVec.extractLsb' 23 8 1048576000#32).toNat = 125 := by decide
  have e3 : (BitVec.extractLsb' 0 23 1048576000#32).toNat = 0 := by decide
  show Ideal.ieee 8 23 1048576000#32 = _
  simp only [Ideal.ieee, e1, e2, e3]
  norm_num
theorem kTwo_eq : Ideal.ofBits .f32 1073741824#32 = ((2 : ℝ) : EReal) := by
  have e1 : (BitVec.extractLsb' (8 + 23) 1 1073741824#32 == 1#1) = false := by decide
  have e2 : (BitVec.extractLsb' 23 8 1073741824#32).toNat = 128 := by decide
  have e3 : (BitVec.extractLsb' 0 23 1073741824#32).toNat = 0 := by decide
  show Ideal.ieee 8 23 1073741824#32 = _
  simp only [Ideal.ieee, e1, e2, e3]
  norm_num

/-! ## Real identities -/

/-- The logistic function. -/
def sg (r : ℝ) : ℝ := 1 / (1 + Real.exp (-r))

theorem one_exp_pos (r : ℝ) : 0 < 1 + Real.exp r := by positivity

theorem tanh_half (r : ℝ) : 1 / 2 + 1 / 2 * Real.tanh (1 / 2 * r) = sg r := by
  have h1 : Real.exp (-r) = Real.exp (-(1 / 2 * r)) * Real.exp (-(1 / 2 * r)) := by rw [← Real.exp_add]; congr 1; ring
  have h2 : Real.exp (1 / 2 * r) * Real.exp (-(1 / 2 * r)) = 1 := by rw [← Real.exp_add]; simp
  have p1 := Real.exp_pos (1 / 2 * r)
  have p2 := Real.exp_pos (-(1 / 2 * r))
  rw [sg, Real.tanh_eq_sinh_div_cosh, Real.sinh_eq, Real.cosh_eq, h1]
  have e : Real.exp (1 / 2 * r) = 1 / Real.exp (-(1 / 2 * r)) := eq_one_div_of_mul_eq_one_left h2
  rw [e]
  field_simp
  ring

theorem sg_neg (r : ℝ) : 1 - sg (-r) = sg r := by
  have h2 : Real.exp r * Real.exp (-r) = 1 := by rw [← Real.exp_add]; simp
  have p1 := Real.exp_pos r
  have p2 := Real.exp_pos (-r)
  rw [sg, sg, neg_neg]
  field_simp
  nlinarith

theorem sg_pos (r : ℝ) : 0 < sg r := by
  have := Real.exp_pos (-r)
  unfold sg; positivity

theorem log_sg (r : ℝ) : Real.log (sg r) = -Real.log (1 + Real.exp (-r)) := by
  rw [sg, one_div, Real.log_inv]

/-! ## The terms of a real logit -/

/-- `log (1 + exp (-|r|))`, and the dense term and the correction as real numbers. -/
def lg (r : ℝ) : ℝ := Real.log (1 + Real.exp (-|r|))
def f0R (r : ℝ) : ℝ := sg r * sg r * (max r 0 + lg r)
def corR (r : ℝ) : ℝ := 1 / 4 * (1 - sg r) * (1 - sg r) * (max (-r) 0 + lg r) - 3 / 4 * sg r * sg r * (max r 0 + lg r)

theorem absf_coe (r : ℝ) : FloatOps.absf (F := Ideal) (φ := .f32) (r : EReal) = ((|r| : ℝ) : EReal) := by
  show max (r : EReal) (-(r : EReal)) = _
  rw [← EReal.coe_neg]
  exact (EReal.coe_strictMono.monotone.map_max).symm

theorem sgE_coe (r : ℝ) : sgE (r : EReal) = ((sg |r| : ℝ) : EReal) := by
  rw [sgE, absf_coe, kHalf_eq, ← EReal.coe_mul, Ideal.tanh_coe, ← EReal.coe_mul, ← EReal.coe_add, tanh_half]

theorem lgE_coe (r : ℝ) : 0 - Ideal.log (sgE (r : EReal)) = ((lg r : ℝ) : EReal) := by
  rw [sgE_coe, Ideal.log_coe, if_neg (not_le.mpr (sg_pos _)), log_sg, ← EReal.coe_zero, ← EReal.coe_sub]
  congr 1
  unfold lg; ring

theorem pE_coe (r : ℝ) : (if 0 ≤ (r : EReal) then sgE (r : EReal) else 1 - sgE (r : EReal)) = ((sg r : ℝ) : EReal) := by
  rw [sgE_coe]
  by_cases h : 0 ≤ r
  · rw [if_pos (by exact_mod_cast h), abs_of_nonneg h]
  · rw [if_neg (by exact_mod_cast h), abs_of_neg (not_le.mp h), ← EReal.coe_one, ← EReal.coe_sub, sg_neg]

theorem qE_coe (r : ℝ) : (if 0 ≤ (r : EReal) then 1 - sgE (r : EReal) else sgE (r : EReal)) = ((1 - sg r : ℝ) : EReal) := by
  rw [sgE_coe]
  by_cases h : 0 ≤ r
  · rw [if_pos (by exact_mod_cast h), abs_of_nonneg h, ← EReal.coe_one, ← EReal.coe_sub]
  · rw [if_neg (by exact_mod_cast h), abs_of_neg (not_le.mp h)]
    congr 1
    have := sg_neg r
    linarith

theorem maxE_coe (r : ℝ) : max (r : EReal) 0 = ((max r 0 : ℝ) : EReal) := by
  rw [← EReal.coe_zero]
  exact (EReal.coe_strictMono.monotone.map_max).symm

theorem f0E_coe (r : ℝ) : f0E (r : EReal) = ((f0R r : ℝ) : EReal) := by
  rw [f0E, pE_coe, lgE_coe, maxE_coe, ← EReal.coe_mul, ← EReal.coe_add, ← EReal.coe_mul]
  rfl

theorem corE_coe (r : ℝ) : corE (r : EReal) = ((corR r : ℝ) : EReal) := by
  rw [corE, pE_coe, qE_coe, lgE_coe, maxE_coe, kFour_eq, kThree_eq]
  rw [show (0 : EReal) - (r : EReal) = ((-r : ℝ) : EReal) by rw [← EReal.coe_zero, ← EReal.coe_sub, zero_sub], maxE_coe]
  simp only [← EReal.coe_mul, ← EReal.coe_add, ← EReal.coe_sub]
  rfl

/-! ## The reference's term -/

/-- The reference's focal term of a logit `x` whose class has the indicator `t`. -/
def refE (t x : EReal) : EReal :=
  (kFour * t + kThree * (1 - t))
      * Ideal.pow (1 - (Ideal.div 1 (1 + Ideal.exp (-x)) * t + (1 - Ideal.div 1 (1 + Ideal.exp (-x))) * (1 - t))) (Ideal.ofBits .f32 1073741824#32)
    * (max x 0 - x * t + Ideal.log1p (Ideal.exp (-FloatOps.absf (F := Ideal) (φ := .f32) x)))

theorem log1p_coe (r : ℝ) : Ideal.log1p (Ideal.exp (-FloatOps.absf (F := Ideal) (φ := .f32) (r : EReal))) = ((lg r : ℝ) : EReal) := by
  rw [absf_coe, ← EReal.coe_neg, Ideal.exp_coe]
  show Ideal.log (1 + _) = _
  rw [← EReal.coe_one, ← EReal.coe_add, Ideal.log_coe, if_neg (not_le.mpr (one_exp_pos _))]
  rfl

theorem sigmoid_coe (r : ℝ) : Ideal.div 1 (1 + Ideal.exp (-(r : EReal))) = ((sg r : ℝ) : EReal) := by
  rw [← EReal.coe_neg, Ideal.exp_coe, ← EReal.coe_one, ← EReal.coe_add, Ideal.div_coe (one_exp_pos _).ne', ← EReal.coe_mul, one_mul]
  rfl

theorem refE_coe (t r : ℝ) : refE (t : EReal) (r : EReal)
    = (((1 / 4 * t + 3 / 4 * (1 - t)) * (1 - (sg r * t + (1 - sg r) * (1 - t))) ^ 2 * (max r 0 - r * t + lg r) : ℝ) : EReal) := by
  rw [refE, sigmoid_coe, log1p_coe, maxE_coe, kFour_eq, kThree_eq, kTwo_eq, ← EReal.coe_one]
  simp only [← EReal.coe_mul, ← EReal.coe_add, ← EReal.coe_sub, Ideal.pow_coe_coe]
  congr 2
  show _ * Real.rpow _ _ = _
  rw [show Real.rpow (1 - (sg r * t + (1 - sg r) * (1 - t))) 2 = (1 - (sg r * t + (1 - sg r) * (1 - t))) ^ 2 from Real.rpow_two _]

/-- A logit whose class is not the target: three quarters of the dense term. -/
theorem refE_zero (r : ℝ) : refE 0 (r : EReal) = ((3 / 4 * f0R r : ℝ) : EReal) := by
  rw [← EReal.coe_zero, refE_coe]
  congr 1
  unfold f0R; ring

/-- A logit whose class is the target: that and the correction. -/
theorem refE_one (r : ℝ) : refE 1 (r : EReal) = ((3 / 4 * f0R r + corR r : ℝ) : EReal) := by
  rw [← EReal.coe_one, refE_coe]
  have h : max r 0 - r = max (-r) 0 := by
    rcases le_total 0 r with h | h
    · rw [max_eq_left h, max_eq_right (by linarith)]; ring
    · rw [max_eq_right h, max_eq_left (by linarith)]; ring
  congr 1
  unfold f0R corR
  rw [show max r 0 - r * 1 + lg r = max (-r) 0 + lg r by rw [mul_one, h]]; ring

end Cert.Proof.Run
-- ==== Proof.RefVal.lean ====
/-
  The reference's result as sums: the box term, the focal term over all classes and the count of the positives.
-/
module

public import proofs.«01_k».proof.Proof.Scalar
public import proofs.«01_k».proof.Proof.Gen.ReferenceIdeal.Run

@[expose] public section

set_option maxRecDepth 16384

noncomputable section

namespace Cert.Proof.Ref

open Cert.ReferenceIdeal Cert.ReferenceIdeal.Gen

open Idealize.ShloMosaic Idealize.SL.Sem

/-- One bit as a number. -/
abbrev bitE (b : BitVec 1) : EReal := FloatOps.uitofp (F := Ideal) .f32 b

/-- The three sums of the reference, of predictions `p`, box targets `l`, logits `x` and class targets `t`. -/
def locOf (p l : S16x20000x4.Idx → EReal) (t : S16x20000.Idx → BitVec 32) : EReal :=
  ∑ b : Fin 16, ∑ a : Fin 20000, ∑ k : Fin 4, Run.boxE (p (ix3 b a k)) (l (ix3 b a k)) * bitE (IntOp.cmpi .sgt (t (ix2 b a)) 0#32)
def clsOf (x : S16x20000x20.Idx → EReal) (t : S16x20000.Idx → BitVec 32) : EReal :=
  ∑ b : Fin 16, ∑ a : Fin 20000, ∑ k : Fin 20,
    Run.refE (bitE (IntOp.cmpi .eq (t (ix2 b a)) (BitVec.ofNat 32 (1 + k.val)))) (x (ix3 b a k)) * bitE (IntOp.cmpi .sgt (t (ix2 b a)) 4294967295#32)
def numOf (t : S16x20000.Idx → BitVec 32) : EReal :=
  ∑ b : Fin 16, ∑ a : Fin 20000, bitE (IntOp.cmpi .sgt (t (ix2 b a)) 0#32)

/-- The loss of the three sums. -/
def lossE (loc cls num : EReal) : EReal := if loc = 0 then cls else Ideal.div (loc + cls) num

/-- The loss of three scalars held as vectors of no axes. -/
theorem lossV (L C N : FVec Ideal S_ .f32) (j : S_.Idx) :
    select (cmpf .oeq L (constant S_ .f32 0x00000000#32)) C (Host.divf (addf L C) N) j = lossE (L j) (C j) (N j) := by
  pointwise [lossE]

theorem lossE_congr {a a' b b' c c' : EReal} (ha : a = a') (hb : b = b') (hc : c = c') : lossE a b c = lossE a' b' c' := by
  rw [ha, hb, hc]

theorem res_eq (m : (ℓ : Loc nD τ sig) → Buf (Elt Ideal) ℓ) (c : Dev nD) :
    Cert.ReferenceIdeal.Value.res_main_v66 (F := Ideal) m c
      = fun _ => lossE (locOf (m ((c.tc : Thread nD τ).loc main_arg0)) (m ((c.tc : Thread nD τ).loc main_arg1)) (m ((c.tc : Thread nD τ).loc main_arg3)))
          (clsOf (m ((c.tc : Thread nD τ).loc main_arg2)) (m ((c.tc : Thread nD τ).loc main_arg3))) (numOf (m ((c.tc : Thread nD τ).loc main_arg3))) := by
  unfold Cert.ReferenceIdeal.Value.res_main_v66
  generalize m ((c.tc : Thread nD τ).loc main_arg0) = p
  generalize m ((c.tc : Thread nD τ).loc main_arg1) = l
  generalize m ((c.tc : Thread nD τ).loc main_arg2) = x
  generalize m ((c.tc : Thread nD τ).loc main_arg3) = t
  change FVec Ideal S16x20000x4 .f32 at p l
  change FVec Ideal S16x20000x20 .f32 at x
  change IVec S16x20000 32 at t
  funext j
  refine (lossV _ _ _ j).trans (lossE_congr ?_ ?_ ?_)
  · pointwise [locOf, Run.boxE]
  · pointwise [clsOf, Run.refE]
  · pointwise [numOf]

end Cert.Proof.Ref
-- ==== Proof.Infinite.lean ====
/-
  The terms of any logit, infinities included: the reference's term of a class that is not the target is three quarters of
  the kernel's dense term, and that of the target is the correction more, unless the logit is infinity.
-/
module

public import proofs.«01_k».proof.Proof.Scalar

@[expose] public section

noncomputable section

namespace Cert.Proof.Run

open Idealize.ShloMosaic

/-! ## The dense term and the correction at the infinities -/

theorem abs_top : FloatOps.absf (F := Ideal) (φ := .f32) (⊤ : EReal) = (⊤ : EReal) := by
  show max (⊤ : EReal) (-⊤) = ⊤
  simp
theorem abs_bot : FloatOps.absf (F := Ideal) (φ := .f32) (⊥ : EReal) = (⊤ : EReal) := by
  show max (⊥ : EReal) (-⊥) = ⊤
  simp

theorem half_one : ((1 / 2 : ℝ) : EReal) + ((1 / 2 : ℝ) : EReal) * 1 = 1 := by
  rw [← EReal.coe_one, ← EReal.coe_mul, ← EReal.coe_add]
  norm_num

theorem sg_top : sgE ⊤ = 1 := by
  rw [sgE, abs_top, kHalf_eq, EReal.coe_mul_top_of_pos (by norm_num)]
  exact half_one
theorem sg_bot : sgE ⊥ = 1 := by
  rw [sgE, abs_bot, kHalf_eq, EReal.coe_mul_top_of_pos (by norm_num)]
  exact half_one

theorem log_one : Ideal.log 1 = 0 := by
  rw [← EReal.coe_one, Ideal.log_coe, if_neg (by norm_num), Real.log_one, EReal.coe_zero]

theorem one_sub_one : (1 : EReal) - 1 = 0 := by
  rw [← EReal.coe_one, ← EReal.coe_sub, sub_self, EReal.coe_zero]

theorem f0_top : f0E ⊤ = ⊤ := by
  rw [f0E, sg_top, if_pos le_top, log_one]
  simp
theorem f0_bot : f0E ⊥ = 0 := by
  rw [f0E, sg_bot, if_neg (by simp), one_sub_one]
  simp

theorem cor_bot : corE ⊥ = ⊤ := by
  rw [corE, sg_bot, if_neg (by simp), if_neg (by simp), one_sub_one, log_one, kFour_eq]
  simp only [mul_zero, zero_mul, mul_one, sub_zero, add_zero]
  rw [show max (0 - (⊥ : EReal)) 0 = ⊤ by simp, EReal.coe_mul_top_of_pos (by norm_num)]

theorem lg_nonneg (r : ℝ) : 0 ≤ lg r := Real.log_nonneg (by have := Real.exp_pos (-|r|); linarith)

theorem f0E_nonneg (x : EReal) : 0 ≤ f0E x := by
  induction x with
  | bot => rw [f0_bot]
  | top => rw [f0_top]; exact le_top
  | coe r =>
    rw [f0E_coe]
    have h1 := sg_pos r
    have h2 := lg_nonneg r
    have h3 := le_max_right r 0
    exact EReal.coe_nonneg.mpr (by unfold f0R; positivity)

/-! ## The reference's term at the infinities -/

theorem two_one : Ideal.pow 1 (Ideal.ofBits .f32 1073741824#32) = 1 := by
  rw [kTwo_eq, ← EReal.coe_one, Ideal.pow_coe_coe]
  exact congrArg _ (Real.one_rpow 2)
theorem two_zero : Ideal.pow 0 (Ideal.ofBits .f32 1073741824#32) = 0 := by
  rw [kTwo_eq, ← EReal.coe_zero, Ideal.pow_coe_coe]
  exact congrArg _ (Real.zero_rpow two_ne_zero)

theorem sigmoid_top : Ideal.div 1 (1 + Ideal.exp (-⊤)) = 1 := by
  show Ideal.div 1 (1 + 0) = 1
  rw [add_zero, ← EReal.coe_one, Ideal.div_coe one_ne_zero, ← EReal.coe_mul]
  norm_num
theorem sigmoid_bot : Ideal.div 1 (1 + Ideal.exp (-⊥)) = 0 := by
  show Ideal.div 1 (1 + ⊤) = 0
  rw [show (1 : EReal) + ⊤ = ⊤ from rfl, Ideal.div, if_neg (by simp), EReal.inv_top, mul_zero]

theorem tail_top : Ideal.log1p (Ideal.exp (-FloatOps.absf (F := Ideal) (φ := .f32) (⊤ : EReal))) = 0 := by
  rw [abs_top]
  show Ideal.log (1 + 0) = 0
  rw [add_zero, log_one]
theorem tail_bot : Ideal.log1p (Ideal.exp (-FloatOps.absf (F := Ideal) (φ := .f32) (⊥ : EReal))) = 0 := by
  rw [abs_bot]
  show Ideal.log (1 + 0) = 0
  rw [add_zero, log_one]

theorem ref_zero_top : refE 0 ⊤ = ⊤ := by
  rw [refE, sigmoid_top, tail_top, one_sub_one]
  simp only [mul_zero, zero_mul, sub_zero, zero_add, add_zero, mul_one, two_one]
  rw [show max (⊤ : EReal) 0 = ⊤ by simp, kThree_eq, EReal.coe_mul_top_of_pos (by norm_num)]
theorem ref_zero_bot : refE 0 ⊥ = 0 := by
  rw [refE, sigmoid_bot]
  simp only [mul_zero, sub_zero, zero_add, mul_one, one_sub_one, two_zero, zero_mul]
theorem ref_one_bot : refE 1 ⊥ = ⊤ := by
  rw [refE, sigmoid_bot, tail_bot, one_sub_one]
  simp only [mul_zero, zero_mul, sub_zero, add_zero, mul_one, two_one]
  rw [show max (⊥ : EReal) 0 - ⊥ = ⊤ by simp, kFour_eq, EReal.coe_mul_top_of_pos (by norm_num)]

/-! ## Any logit -/

/-- A class that is not the target. -/
theorem term_zero (x : EReal) : refE 0 x = kThree * f0E x := by
  induction x with
  | bot => rw [ref_zero_bot, f0_bot, mul_zero]
  | top => rw [ref_zero_top, f0_top, kThree_eq, EReal.coe_mul_top_of_pos (by norm_num)]
  | coe r => rw [refE_zero, f0E_coe, kThree_eq, EReal.coe_mul]

/-- The target. -/
theorem term_one (x : EReal) (hx : x ≠ ⊤) : refE 1 x = kThree * f0E x + corE x := by
  induction x with
  | bot => rw [ref_one_bot, f0_bot, mul_zero, cor_bot, zero_add]
  | top => exact absurd rfl hx
  | coe r => rw [refE_one, f0E_coe, corE_coe, kThree_eq, EReal.coe_add, EReal.coe_mul]

end Cert.Proof.Run
-- ==== Proof.Value.lean ====
/-
  The kernel's loss is the reference's: the counts, the box sums and, where the classes are 0 … 20 and no anchor's own
  logit is infinity, the focal sums agree.
-/
module

public import proofs.«01_k».proof.Proof.Entry
public import proofs.«01_k».proof.Proof.PreVal
public import proofs.«01_k».proof.Proof.RefVal
public import proofs.«01_k».proof.Proof.Infinite

@[expose] public section

set_option maxRecDepth 16384

noncomputable section

namespace Cert.Proof.Run

open Cert.KernelIdeal Cert.KernelIdeal.Gen

open Idealize.ShloMosaic Idealize.ShloMosaic.TcCoe Idealize.SL.Sem

open Cert.Proof.Ref (bitE locOf clsOf numOf lossE lossE_congr)

/-! ## Masks -/

theorem bit_cases (c : BitVec 1) : c = 0#1 ∨ c = 1#1 := by
  revert c; decide

theorem bitE_zero : bitE 0#1 = 0 := by
  show (((0#1 : BitVec 1).toNat : ℝ) : EReal) = 0
  simp
theorem bitE_one : bitE 1#1 = 1 := by
  show (((1#1 : BitVec 1).toNat : ℝ) : EReal) = 1
  simp

/-- Selecting a value or nothing is multiplying it by the bit. -/
theorem select_mul (c : BitVec 1) (v : EReal) : Scalar.select c v 0 = v * bitE c := by
  rcases bit_cases c with rfl | rfl
  · rw [bitE_zero, mul_zero]; rfl
  · rw [bitE_one, mul_one]; rfl

theorem pos_mul (t : BitVec 32) (v : EReal) : pos t v = v * bitE (IntOp.cmpi .sgt t 0#32) := select_mul _ v

/-! ## Sums of terms that are not negative -/

theorem three_sum {ι : Type} [Fintype ι] (f : ι → EReal) (hf : ∀ i, 0 ≤ f i) : kThree * ∑ i, f i = ∑ i, kThree * f i := by
  classical
  have h : ∀ s : Finset ι, kThree * ∑ i ∈ s, f i = ∑ i ∈ s, kThree * f i := fun s => by
    induction s using Finset.induction_on with
    | empty => exact mul_zero _
    | insert i s hi ih =>
      rw [Finset.sum_insert hi, Finset.sum_insert hi, EReal.left_distrib_of_nonneg (hf i) (Finset.sum_nonneg fun j _ => hf j), ih]
  exact h Finset.univ

/-! ## One anchor -/

theorem eq_bit (n : Fin 21) (k : Fin 20) : IntOp.cmpi .eq (BitVec.ofNat 32 n.val) (BitVec.ofNat 32 (1 + k.val)) = if n.val = 1 + k.val then 1#1 else 0#1 := by
  revert n k; decide +kernel
theorem known_bit (n : Fin 21) : IntOp.cmpi .sgt (BitVec.ofNat 32 n.val) 4294967295#32 = 1#1 := by
  revert n; decide +kernel
theorem pos_bit (n : Fin 21) : IntOp.cmpi .sgt (BitVec.ofNat 32 n.val) 0#32 = if n.val = 0 then 0#1 else 1#1 := by
  revert n; decide +kernel

/-- A class's focal term: three quarters of the dense term, and the correction if it is the target. -/
theorem focal_at (n : Fin 21) (k : Fin 20) (x : EReal) (hx : n.val = 1 + k.val → x ≠ ⊤) :
    refE (bitE (IntOp.cmpi .eq (BitVec.ofNat 32 n.val) (BitVec.ofNat 32 (1 + k.val)))) x * bitE (IntOp.cmpi .sgt (BitVec.ofNat 32 n.val) 4294967295#32)
      = kThree * f0E x + if n.val = 1 + k.val then corE x else 0 := by
  rw [known_bit, bitE_one, mul_one, eq_bit]
  by_cases h : n.val = 1 + k.val
  · rw [if_pos h, if_pos h, bitE_one, term_one x (hx h)]
  · rw [if_neg h, if_neg h, bitE_zero, term_zero, add_zero]

/-- The correction of the logit the target picks. -/
theorem picked (n : Fin 21) (x : Fin 20 → EReal) :
    pos (BitVec.ofNat 32 n.val) (corE (∑ k : Fin 20, pk (BitVec.ofNat 32 (1 + k.val)) (BitVec.ofNat 32 n.val) (x k)))
      = ∑ k : Fin 20, if n.val = 1 + k.val then corE (x k) else 0 := by
  by_cases h0 : n.val = 0
  · rw [pos_mul, pos_bit, if_pos h0, bitE_zero, mul_zero, Finset.sum_eq_zero fun k _ => if_neg (by omega)]
  · have hj : n.val - 1 < 20 := by have := n.isLt; omega
    have e : ∀ k : Fin 20, n.val = 1 + k.val ↔ k = (⟨n.val - 1, hj⟩ : Fin 20) := fun k =>
      ⟨fun h => Fin.ext (by show k.val = n.val - 1; omega), fun h => by subst h; show n.val = 1 + (n.val - 1); omega⟩
    have e1 : ∑ k : Fin 20, pk (BitVec.ofNat 32 (1 + k.val)) (BitVec.ofNat 32 n.val) (x k) = x ⟨n.val - 1, hj⟩ := by
      rw [Finset.sum_eq_single (⟨n.val - 1, hj⟩ : Fin 20)]
      · rw [pk, eq_bit, if_pos ((e _).mpr rfl)]; rfl
      · intro k _ hk
        rw [pk, eq_bit, if_neg fun h => hk ((e k).mp h)]; rfl
      · intro h; exact absurd (Finset.mem_univ _) h
    rw [e1, pos_mul, pos_bit, if_neg h0, bitE_one, mul_one]
    rw [Finset.sum_eq_single (⟨n.val - 1, hj⟩ : Fin 20)]
    · rw [if_pos ((e _).mpr rfl)]
    · intro k _ hk
      rw [if_neg fun h => hk ((e k).mp h)]
    · intro h; exact absurd (Finset.mem_univ _) h

/-- An anchor's focal terms: three quarters of its dense sum, and the correction of the picked logit. -/
theorem anchor (n : Fin 21) (x : Fin 20 → EReal) (hx : ∀ k : Fin 20, n.val = 1 + k.val → x k ≠ ⊤) :
    kThree * (∑ k : Fin 20, f0E (x k))
        + pos (BitVec.ofNat 32 n.val) (corE (∑ k : Fin 20, pk (BitVec.ofNat 32 (1 + k.val)) (BitVec.ofNat 32 n.val) (x k)))
      = ∑ k : Fin 20, refE (bitE (IntOp.cmpi .eq (BitVec.ofNat 32 n.val) (BitVec.ofNat 32 (1 + k.val)))) (x k)
          * bitE (IntOp.cmpi .sgt (BitVec.ofNat 32 n.val) 4294967295#32) := by
  rw [picked, Finset.sum_congr rfl fun k _ => focal_at n k (x k) (hx k), Finset.sum_add_distrib, three_sum _ fun k => f0E_nonneg _]

/-! ## The three sums -/

/-- The focal sum over all anchors, of logits `x` and classes `n`. -/
theorem focal (x : Fin 16 → Fin 20000 → Fin 20 → EReal) (n : Fin 16 → Fin 20000 → Fin 21)
    (hx : ∀ b a (k : Fin 20), (n b a).val = 1 + k.val → x b a k ≠ ⊤) :
    kThree * (∑ k : Fin 20, ∑ b : Fin 16, ∑ a : Fin 20000, f0E (x b a k))
        + ∑ b : Fin 16, ∑ a : Fin 20000, pos (BitVec.ofNat 32 (n b a).val)
            (corE (∑ k : Fin 20, pk (BitVec.ofNat 32 (1 + k.val)) (BitVec.ofNat 32 (n b a).val) (x b a k)))
      = ∑ b : Fin 16, ∑ a : Fin 20000, ∑ k : Fin 20,
          refE (bitE (IntOp.cmpi .eq (BitVec.ofNat 32 (n b a).val) (BitVec.ofNat 32 (1 + k.val)))) (x b a k)
            * bitE (IntOp.cmpi .sgt (BitVec.ofNat 32 (n b a).val) 4294967295#32) := by
  have n1 : ∀ b a, 0 ≤ ∑ k : Fin 20, f0E (x b a k) := fun b a => Finset.sum_nonneg fun k _ => f0E_nonneg _
  rw [Finset.sum_comm, Finset.sum_congr rfl fun b _ => Finset.sum_comm,
    three_sum _ fun b => Finset.sum_nonneg fun a _ => n1 b a, ← Finset.sum_add_distrib]
  refine Finset.sum_congr rfl fun b _ => ?_
  rw [three_sum _ fun a => n1 b a, ← Finset.sum_add_distrib]
  exact Finset.sum_congr rfl fun a _ => anchor (n b a) (x b a) (hx b a)

section

variable (m : (ℓ : Loc nD τ sig) → Buf (Elt Ideal) ℓ) (d : Dev nD)

theorem kNum_eq : kNum (Vr m) d = numOf (argT m d) := by
  unfold kNum numOf
  rw [arrC_eq, parts_sum, Fin.sum_univ_tiles 16 20000 rfl]
  refine Finset.sum_congr rfl fun b _ => Finset.sum_congr rfl fun a _ => ?_
  rw [pos_mul, one_mul, flat_at]

theorem kBox_eq : kBox (Vr m) d = locOf (argP m d) (argL m d) (argT m d) := by
  unfold kBox locOf
  refine Finset.sum_congr rfl fun b _ => ?_
  rw [Finset.sum_comm]
  refine Finset.sum_congr rfl fun a _ => Finset.sum_congr rfl fun k _ => ?_
  rw [pos_mul, arrT_eq, arrP_at, arrL_at]

theorem kCls_eq (h : Cert.Pre_in_range.fn (F := Ideal) (argP m d) (argL m d) (argX m d) (argT m d) = fun _ => 1#1) :
    kThree * kDense (Vr m) d + kCor (Vr m) d = clsOf (argX m d) (argT m d) := by
  choose n hn hx using Pre.of_pre (argP m d) (argL m d) (argX m d) (argT m d) h
  unfold kDense kCor clsOf
  simp only [arrX_at, arrT_eq, hn]
  exact focal (fun b a k => argX m d (ix3 b a k)) n hx

/-- The kernel's loss, of arguments in range. -/
theorem loss_eq (h : Cert.Pre_in_range.fn (F := Ideal) (argP m d) (argL m d) (argX m d) (argT m d) = fun _ => 1#1) :
    LOSS m d = lossE (locOf (argP m d) (argL m d) (argT m d)) (clsOf (argX m d) (argT m d)) (numOf (argT m d)) := by
  unfold LOSS
  rw [lossOf_eq, kCls_eq m d h, kBox_eq, kNum_eq]
  rfl

end

end Cert.Proof.Run
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_in_range
public import proofs.«01_k».proof.Proof.Value
public import Idealize.ShloMosaic.Adequacy
public import Idealize.ShloMosaic.Init

@[expose] public section

noncomputable section

namespace Cert.Proof

open Idealize.ShloMosaic Idealize.SL.Sem

/-! ## The kernel's two printings are one program -/

theorem sc_eq : Cert.Kernel.sc (F := Bits) = Cert.KernelIdeal.sc (F := Bits) := rfl
set_option maxHeartbeats 2000000 in
theorem main_eq : Cert.Kernel.main (F := Bits) = Cert.KernelIdeal.main (F := Bits) := rfl

theorem defs₀_eq : Cert.Kernel.defs₀ (F := Bits) = Cert.KernelIdeal.defs₀ (F := Bits) := by
  unfold Cert.Kernel.defs₀ Cert.KernelIdeal.defs₀
  funext π ℓ a
  cases π with
  | tc =>
    match ℓ, a with
    | 0, _ => rfl
    | 1, _ => rfl
  | scScalar c => rfl
  | scVector c s =>
    match ℓ, a with
    | 0, _ => rfl
    | 1, _ => rfl

theorem defs_eq : Cert.Kernel.defs (F := Bits) = Cert.KernelIdeal.defs (F := Bits) := by
  unfold Cert.Kernel.defs Cert.KernelIdeal.defs
  rw [defs₀_eq, sc_eq]
  rfl

theorem threads_eq : Cert.Kernel.threads (F := Bits) = Cert.KernelIdeal.threads (F := Bits) := by
  unfold Cert.Kernel.threads Cert.KernelIdeal.threads
  rw [main_eq, sc_eq]
  rfl

/-- The kernel as printed for the machine's words: the one run, read there. -/
theorem frame_kernel : Cert.quiescent_Kernel := fun m ρ _ => by
  rw [defs_eq, threads_eq]
  exact (θ_run Cert.KernelIdeal.defs _ _).mono (fun _ h => ⟨fun c => (h.1 c).1, h.2⟩) (Run.run_main (F := Bits) m ρ)

theorem frame_kernelIdeal : Cert.quiescent_KernelIdeal := fun m ρ _ =>
  (θ_run Cert.KernelIdeal.defs _ _).mono (fun _ h => ⟨fun c => (h.1 c).1, h.2⟩) (Run.run_main (F := Ideal) m ρ)

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- From arguments that agree and are in range, the kernel and the reference leave one loss. -/
theorem algebraic : Cert.algebraic_KernelIdeal_ReferenceIdeal_pre_in_range := fun m ρ m' ρ' hpre hargs => by
  refine ⟨fun c => fun _ => Run.LOSS m c, ?_, ?_⟩
  · exact (θ_run Cert.KernelIdeal.defs _ _).mono (fun _ h c => ⟨(h.1 c).2, (h.1 c).1⟩) (Run.run_main (F := Ideal) m ρ)
  · refine (θ_run Cert.ReferenceIdeal.defs _ _).mono (fun r h c => ⟨?_, (h c).2⟩) (Cert.ReferenceIdeal.Value.run (F := Ideal) m' ρ')
    obtain ⟨e0, e1, e2, e3⟩ := hargs c
    rw [(h c).1, Ref.res_eq, e0, e1, e2, e3]
    funext j
    exact (Run.loss_eq m c (hpre c)).symm

theorem claim : Cert.Claim := ⟨Cert.Kernel.Gen.facts, Cert.KernelIdeal.Gen.facts, Cert.ReferenceIdeal.Gen.facts, Cert.Pre_in_range.Gen.facts,
  frame_kernel, frame_kernelIdeal, fun m ρ _ => frame_kernelIdeal m ρ trivial, frame_reference,
  fun m ρ _ => frame_reference m ρ trivial, trivial, algebraic⟩

end Cert.Proof

end
